-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 4096]⟩ (Layout.meshBlock [2, 2, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x7 : Shape := ⟨2, ![256, 7]⟩
abbrev S256 : Shape := ⟨1, ![256]⟩
abbrev S256x1 : Shape := ⟨2, ![256, 1]⟩

class Facts : Prop where
  slices_S256x4096_S256x8_0_0 : S256x4096.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_1 : S256x8.Slices ![0, 1] S256x7
  slices_S256x8_S256x7_0_0 : S256x8.Slices ![0, 0] S256x7
  bcast_S_S256 : S_.BroadcastsInDim S256 (![] : Fin 0 → Fin S256.rank)
  slices_S256x7_S256x1_0_0 : S256x7.Slices ![0, 0] S256x1
  shapeCasts_S256x1_S256 : S256x1.ShapeCasts S256
  slices_S256x7_S256x1_0_1 : S256x7.Slices ![0, 1] S256x1
  slices_S256x7_S256x1_0_2 : S256x7.Slices ![0, 2] S256x1
  slices_S256x7_S256x1_0_3 : S256x7.Slices ![0, 3] S256x1
  slices_S256x7_S256x1_0_4 : S256x7.Slices ![0, 4] S256x1
  slices_S256x7_S256x1_0_5 : S256x7.Slices ![0, 5] S256x1
  slices_S256x7_S256x1_0_6 : S256x7.Slices ![0, 6] S256x1
  bcast_S256_S256x1_0 : S256.BroadcastsInDim S256x1 (![0] : Fin 1 → Fin S256x1.rank)
  concatenates_S256x1_S256x1_S256x1_S256x1_S256x1_S256x1_S256x1_S256x1_S256x8_d1 : Shape.Concatenates [S256x1, S256x1, S256x1, S256x1, S256x1, S256x1, S256x1, S256x1] S256x8 1
  gather_S256x4096_S256x8x1_S256x8_n_1_0_0_1_2_11_wf : GatherDims.WF S256x4096 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x4096_S256x8x1_S256x8_n_1_0_0_1_2_11 : GatherDims S256x4096 S256x8x1 S256x8 where
  offsetDims := []
  collapsedSliceDims := [1]
  operandBatchingDims := [0]
  startIndicesBatchingDims := [0]
  startIndexMap := [1]
  indexVectorDim := 2
  sliceSizes := ![1, 1]
  wf := gather_S256x4096_S256x8x1_S256x8_n_1_0_0_1_2_11_wf

def fn_argsort {F : FTy → Type} [FloatOps F] (arg0 : FVec F S256x4096 .f32) : IVec S256x4096 32 :=
  let v0 : IVec S256x4096 32 := iotaInDim S256x4096 32 1
  let v1_0 : FVec F S256x4096 .f32 := (fun x y => (Host.sort2 S256x4096 1 comparator_f32_i32_d1 x y).1) arg0 v0
  let v1_1 : IVec S256x4096 32 := (fun x y => (Host.sort2 S256x4096 1 comparator_f32_i32_d1 x y).2) arg0 v0
  v1_1

def fn_take_along_axis {F : FTy → Type} [FloatOps F] (arg0 : FVec F S256x4096 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 4096#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 4095#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x4096_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn_part1 {F : FTy → Type} [FloatOps F] (main_v6 : IVec S256x7 1) (main_v7 : IVec S256 1) (main_v10 : IVec S256 1) (main_v13 : IVec S256 1) (main_v16 : IVec S256 1) (main_v19 : IVec S256 1) (main_v22 : IVec S256 1) : IVec S256x8 1 :=
  let main_v23 : IVec S256x1 1 := (extractStridedSlice S256x1 ![0, 5] · slices_S256x7_S256x1_0_5) main_v6
  let main_v24 : IVec S256 1 := shapeCast S256 main_v23 shapeCasts_S256x1_S256
  let main_v25 : IVec S256 1 := andi main_v22 main_v24
  let main_v26 : IVec S256x1 1 := (extractStridedSlice S256x1 ![0, 6] · slices_S256x7_S256x1_0_6) main_v6
  let main_v27 : IVec S256 1 := shapeCast S256 main_v26 shapeCasts_S256x1_S256
  let main_v28 : IVec S256 1 := andi main_v25 main_v27
  let main_v29 : IVec S256x1 1 := broadcastInDim S256x1 ![0] bcast_S256_S256x1_0 main_v7
  let main_v30 : IVec S256x1 1 := broadcastInDim S256x1 ![0] bcast_S256_S256x1_0 main_v10
  let main_v31 : IVec S256x1 1 := broadcastInDim S256x1 ![0] bcast_S256_S256x1_0 main_v13
  let main_v32 : IVec S256x1 1 := broadcastInDim S256x1 ![0] bcast_S256_S256x1_0 main_v16
  let main_v33 : IVec S256x1 1 := broadcastInDim S256x1 ![0] bcast_S256_S256x1_0 main_v19
  let main_v34 : IVec S256x1 1 := broadcastInDim S256x1 ![0] bcast_S256_S256x1_0 main_v22
  let main_v35 : IVec S256x1 1 := broadcastInDim S256x1 ![0] bcast_S256_S256x1_0 main_v25
  let main_v36 : IVec S256x1 1 := broadcastInDim S256x1 ![0] bcast_S256_S256x1_0 main_v28
  let main_v37 : IVec S256x8 1 := concatenate S256x8 1 [⟨S256x1, main_v29⟩, ⟨S256x1, main_v30⟩, ⟨S256x1, main_v31⟩, ⟨S256x1, main_v32⟩, ⟨S256x1, main_v33⟩, ⟨S256x1, main_v34⟩, ⟨S256x1, main_v35⟩, ⟨S256x1, main_v36⟩] concatenates_S256x1_S256x1_S256x1_S256x1_S256x1_S256x1_S256x1_S256x1_S256x8_d1
  main_v37

def fn {F : FTy → Type} [FloatOps F] (main_arg0 : FVec F S256x4096 .f32) : IVec S256x8 1 :=
  let main_v0 : FVec F S256x4096 .f32 := Host.negf main_arg0
  let main_v1 : IVec S256x4096 32 := fn_argsort (F := F) main_v0
  let main_v2 : IVec S256x8 32 := (extractStridedSlice S256x8 ![0, 0] · slices_S256x4096_S256x8_0_0) main_v1
  let main_v3 : FVec F S256x8 .f32 := fn_take_along_axis (F := F) main_arg0 main_v2
  let main_v4 : FVec F S256x7 .f32 := (extractStridedSlice S256x7 ![0, 1] · slices_S256x8_S256x7_0_1) main_v3
  let main_v5 : FVec F S256x7 .f32 := (extractStridedSlice S256x7 ![0, 0] · slices_S256x8_S256x7_0_0) main_v3
  let main_v6 : IVec S256x7 1 := cmpf .olt main_v4 main_v5
  let main_c : IVec S_ 1 := constantI S_ 1 1#1
  let main_v7 : IVec S256 1 := broadcastInDim S256 ![] bcast_S_S256 main_c
  let main_v8 : IVec S256x1 1 := (extractStridedSlice S256x1 ![0, 0] · slices_S256x7_S256x1_0_0) main_v6
  let main_v9 : IVec S256 1 := shapeCast S256 main_v8 shapeCasts_S256x1_S256
  let main_v10 : IVec S256 1 := andi main_v7 main_v9
  let main_v11 : IVec S256x1 1 := (extractStridedSlice S256x1 ![0, 1] · slices_S256x7_S256x1_0_1) main_v6
  let main_v12 : IVec S256 1 := shapeCast S256 main_v11 shapeCasts_S256x1_S256
  let main_v13 : IVec S256 1 := andi main_v10 main_v12
  let main_v14 : IVec S256x1 1 := (extractStridedSlice S256x1 ![0, 2] · slices_S256x7_S256x1_0_2) main_v6
  let main_v15 : IVec S256 1 := shapeCast S256 main_v14 shapeCasts_S256x1_S256
  let main_v16 : IVec S256 1 := andi main_v13 main_v15
  let main_v17 : IVec S256x1 1 := (extractStridedSlice S256x1 ![0, 3] · slices_S256x7_S256x1_0_3) main_v6
  let main_v18 : IVec S256 1 := shapeCast S256 main_v17 shapeCasts_S256x1_S256
  let main_v19 : IVec S256 1 := andi main_v16 main_v18
  let main_v20 : IVec S256x1 1 := (extractStridedSlice S256x1 ![0, 4] · slices_S256x7_S256x1_0_4) main_v6
  let main_v21 : IVec S256 1 := shapeCast S256 main_v20 shapeCasts_S256x1_S256
  let main_v22 : IVec S256 1 := andi main_v19 main_v21
  fn_part1 (F := F) main_v6 main_v7 main_v10 main_v13 main_v16 main_v19 main_v22
-- ==== Kernel.lean ====
abbrev S256x1024 : Shape := ⟨2, ![256, 1024]⟩
abbrev S256x8 : Shape := ⟨2, ![256, 8]⟩
abbrev S4x8x256 : Shape := ⟨3, ![4, 8, 256]⟩
abbrev S3 : Shape := ⟨1, ![3]⟩
abbrev S4 : Shape := ⟨1, ![4]⟩
abbrev S_ : Shape := ⟨0, ![]⟩
abbrev S256 : Shape := ⟨1, ![256]⟩
abbrev S256x1 : Shape := ⟨2, ![256, 1]⟩
abbrev S8x256 : Shape := ⟨2, ![8, 256]⟩
abbrev S1x8x256 : Shape := ⟨3, ![1, 8, 256]⟩
abbrev S1 : Shape := ⟨1, ![1]⟩
abbrev S32x256 : Shape := ⟨2, ![32, 256]⟩
abbrev S1x256 : Shape := ⟨2, ![1, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S4x8x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v123 : BitVec 32 := Scalar.muli v2 c8_i32_66
  let v124 : BitVec 32 := Scalar.addi c0_i32_67 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v125 : BitVec 32 := Scalar.muli v5 c4_i32_68
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v112 : BitVec 32 := Scalar.addi v8 c1_i32_55
  let c4_i32_56 : BitVec 32 := 4#32
  let c0_i32_57 : BitVec 32 := 0#32
  let v113 : BitVec 1 := Scalar.cmpi .eq c4_i32_56 c0_i32_57
  let c1_i32_58 : BitVec 32 := 1#32
  let v114 : BitVec 32 := Scalar.select v113 c1_i32_58 c4_i32_56
  let v115 : BitVec 32 := Scalar.remsi v112 v114
  let c0_i32_60 : BitVec 32 := 0#32
  let v117 : BitVec 1 := Scalar.cmpi .slt v115 c0_i32_60
  let c0_i32_61 : BitVec 32 := 0#32
  let v118 : BitVec 1 := Scalar.cmpi .slt v114 c0_i32_61
  let v119 : BitVec 1 := Scalar.xori v117 v118
  let c0_i32_59 : BitVec 32 := 0#32
  let v116 : BitVec 1 := Scalar.cmpi .ne v115 c0_i32_59
  let v120 : BitVec 1 := Scalar.andi v119 v116
  let v121 : BitVec 32 := Scalar.addi v115 v114
  let v122 : BitVec 32 := Scalar.select v120 v121 v115
  let c1_i32_69 : BitVec 32 := 1#32
  let v127 : BitVec 32 := Scalar.muli v122 c1_i32_69
  let v128 : BitVec 32 := Scalar.addi v126 v127
  v128.toNat
def k0_dev5 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v148 : BitVec 32 := Scalar.muli v2 c8_i32_85
  let v149 : BitVec 32 := Scalar.addi c0_i32_86 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v150 : BitVec 32 := Scalar.muli v5 c4_i32_87
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_74 : BitVec 32 := 2#32
  let v137 : BitVec 32 := Scalar.addi v8 c2_i32_74
  let c4_i32_75 : BitVec 32 := 4#32
  let c0_i32_76 : BitVec 32 := 0#32
  let v138 : BitVec 1 := Scalar.cmpi .eq c4_i32_75 c0_i32_76
  let c1_i32_77 : BitVec 32 := 1#32
  let v139 : BitVec 32 := Scalar.select v138 c1_i32_77 c4_i32_75
  let v140 : BitVec 32 := Scalar.remsi v137 v139
  let c0_i32_79 : BitVec 32 := 0#32
  let v142 : BitVec 1 := Scalar.cmpi .slt v140 c0_i32_79
  let c0_i32_80 : BitVec 32 := 0#32
  let v143 : BitVec 1 := Scalar.cmpi .slt v139 c0_i32_80
  let v144 : BitVec 1 := Scalar.xori v142 v143
  let c0_i32_78 : BitVec 32 := 0#32
  let v141 : BitVec 1 := Scalar.cmpi .ne v140 c0_i32_78
  let v145 : BitVec 1 := Scalar.andi v144 v141
  let v146 : BitVec 32 := Scalar.addi v140 v139
  let v147 : BitVec 32 := Scalar.select v145 v146 v140
  let c1_i32_88 : BitVec 32 := 1#32
  let v152 : BitVec 32 := Scalar.muli v147 c1_i32_88
  let v153 : BitVec 32 := Scalar.addi v151 v152
  v153.toNat
def k0_dev6 (d0 : Dev nD) : Nat :=
  let c0_i32_105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_104 : BitVec 32 := 8#32
  let v173 : BitVec 32 := Scalar.muli v2 c8_i32_104
  let v174 : BitVec 32 := Scalar.addi c0_i32_105 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v175 : BitVec 32 := Scalar.muli v5 c4_i32_106
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_93 : BitVec 32 := 3#32
  let v162 : BitVec 32 := Scalar.addi v8 c3_i32_93
  let c4_i32_94 : BitVec 32 := 4#32
  let c0_i32_95 : BitVec 32 := 0#32
  let v163 : BitVec 1 := Scalar.cmpi .eq c4_i32_94 c0_i32_95
  let c1_i32_96 : BitVec 32 := 1#32
  let v164 : BitVec 32 := Scalar.select v163 c1_i32_96 c4_i32_94
  let v165 : BitVec 32 := Scalar.remsi v162 v164
  let c0_i32_98 : BitVec 32 := 0#32
  let v167 : BitVec 1 := Scalar.cmpi .slt v165 c0_i32_98
  let c0_i32_99 : BitVec 32 := 0#32
  let v168 : BitVec 1 := Scalar.cmpi .slt v164 c0_i32_99
  let v169 : BitVec 1 := Scalar.xori v167 v168
  let c0_i32_97 : BitVec 32 := 0#32
  let v166 : BitVec 1 := Scalar.cmpi .ne v165 c0_i32_97
  let v170 : BitVec 1 := Scalar.andi v169 v166
  let v171 : BitVec 32 := Scalar.addi v165 v164
  let v172 : BitVec 32 := Scalar.select v170 v171 v165
  let c1_i32_107 : BitVec 32 := 1#32
  let v177 : BitVec 32 := Scalar.muli v172 c1_i32_107
  let v178 : BitVec 32 := Scalar.addi v176 v177
  v178.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .i32⟩
  | .hbm, ⟨3, _⟩ => ⟨S256x4096, .f32⟩
  | .hbm, ⟨4, _⟩ => ⟨S256x4096, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.KernelIdeal.Exchange.lean ====
/- THE EXCHANGE of the partial results along the mesh axis z, as a schedule of semaphore rounds.

The sixteen devices fall into four groups of four, a group sharing its place on the axes x and y; `sh d c` is the
device `d` places after `c` along z, counted round the group. Every device has a buffer of four SLOTS. Slot 0 takes
its own eight values per row, slot `j` those of the device `j` places after it.

 * Device `w` SIGNALS the barrier semaphore of `sh e w` for `e = 1, 2, 3`. That signal hands over slot `e` of `w`, with
   any contents, and that the receive semaphore of slot `e` is still at its first round.
 * Device `c` WAITS for three units on its barrier semaphore; the device `sh (-e) c` gave it its slot `e`.
 * Device `c` COPIES its slot 0 to slot `-d` of `sh d c` for `d = 1, 2, 3`, lending one share of slot 0 to each copy.
   The send semaphore returns the share; the receive semaphore gives the owner the slot with the sender's values.
 * Device `c` waits on its receive semaphores 1, 2, 3 and then on its send semaphores, and reads all four slots. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's rounds: a semaphore's round has up to four duties, named by the distance travelled. -/
abbrev UB : Type := URounds (GSem nD τ sig) (Fin 4)
/-- The ghost state: the rounds of the staged operands' copies and those of the exchange. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at the start: any contents, every counter at zero, any generator registers. -/
def s₀ : MemSt nD τ sig (Elt F) := ⟨m, fun _ => 0, ρ⟩

/-! ## The groups of four -/

set_option backward.proofsInPublic true in
/-- The device `d` places after `c` in its group. -/
def sh (d : Fin 4) (c : Dev nD) : Dev nD :=
  ⟨c.val / 4 * 4 + (c.val % 4 + d.val) % 4, by have := c.isLt; show _ < 16; have : c.val < 16 := c.isLt; omega⟩

/-- Distances add up. -/
theorem sh_sh (a b : Fin 4) (c : Dev nD) : sh a (sh b c) = sh (a + b) c := by
  revert a b c; decide
/-- No distance, the same device. -/
theorem sh_zero (c : Dev nD) : sh 0 c = c := by revert c; decide
/-- A distance and its opposite cancel; -/
theorem sh_neg_sh (a : Fin 4) (c : Dev nD) : sh (-a) (sh a c) = c := by revert a c; decide
/-- in either order. -/
theorem sh_sh_neg (a : Fin 4) (c : Dev nD) : sh a (sh (-a) c) = c := by revert a c; decide

/-- Moving every device by one distance permutes the devices. -/
def shE (d : Fin 4) : Dev nD ≃ Dev nD := ⟨sh d, sh (-d), sh_neg_sh d, sh_sh_neg d⟩

/-- The three signals and the three copies address the devices one, two and three places on. -/
theorem dev1_eq (c : Dev nD) : (⟨k0_dev1 c, k0_dev1_lt c⟩ : Dev nD) = sh 1 c := by revert c; decide
theorem dev2_eq (c : Dev nD) : (⟨k0_dev2 c, k0_dev2_lt c⟩ : Dev nD) = sh 2 c := by revert c; decide
theorem dev3_eq (c : Dev nD) : (⟨k0_dev3 c, k0_dev3_lt c⟩ : Dev nD) = sh 3 c := by revert c; decide
theorem dev4_eq (c : Dev nD) : (⟨k0_dev4 c, k0_dev4_lt c⟩ : Dev nD) = sh 1 c := by revert c; decide
theorem dev5_eq (c : Dev nD) : (⟨k0_dev5 c, k0_dev5_lt c⟩ : Dev nD) = sh 2 c := by revert c; decide
theorem dev6_eq (c : Dev nD) : (⟨k0_dev6 c, k0_dev6_lt c⟩ : Dev nD) = sh 3 c := by revert c; decide

/-! ## The buffers and the slots -/

abbrev xM : Memref sig .tc .vmem S256x1024 .f32 := Memref.whole cc0_stg0_0
abbrev oM : Memref sig .tc .vmem S256x8 .f32 := Memref.whole cc0_stg1_0
abbrev sM : Memref sig .tc .vmem S4x8x256 .f32 := Memref.whole cc0_scratch0

theorem slot_inb (j : Fin 4) : ∀ a, (![j.val, 0, 0] : Fin 3 → ℕ) a + S1x8x256.size a ≤ S4x8x256.size a := by
  revert j; decide

/-- The rectangle of slot `j`, and the slot as the 8 × 256 array that the copies move. -/
abbrev slotR (j : Fin 4) : Rect S4x8x256 := Rect.unit (s := S4x8x256) ![j.val, 0, 0] S1x8x256.size (slot_inb j)
abbrev slotM (j : Fin 4) : Memref sig .tc .vmem S8x256 .f32 :=
  (sM.slice (slotR j) (fun _ => rfl)).squeeze S8x256 squeezes_S1x8x256_S8x256

/-- The slot buffer's place on a device. -/
abbrev scr (c : Dev nD) : Loc nD τ sig := (c : Thread nD τ).loc cc0_scratch0

/-- An entry of the slot buffer. -/
def ix (j : Fin 4) (a : Fin 8) (b : Fin 256) : S4x8x256.Idx := fun | 0 => j | 1 => a | 2 => b
/-- An entry of one slot. -/
def ix2 (a : Fin 8) (b : Fin 256) : S8x256.Idx := fun | 0 => a | 1 => b

theorem ix2_eta (y : S8x256.Idx) : ix2 (y 0) (y 1) = y := by funext a; fin_cases a <;> rfl
theorem ix_eta (y : S4x8x256.Idx) : ix (y 0) (y 1) (y 2) = y := by funext a; fin_cases a <;> rfl

/-- The entries of slot `j`. -/
def slotSet (j : Fin 4) : Finset S4x8x256.Idx := Finset.univ.filter fun i => (i 0).val = j.val

theorem mem_slotSet (j : Fin 4) (i : S4x8x256.Idx) : i ∈ slotSet j ↔ i 0 = j :=
  ⟨fun h => Fin.ext (Finset.mem_filter.mp h).2, fun h => Finset.mem_filter.mpr ⟨Finset.mem_univ _, congrArg Fin.val h⟩⟩

/-- An entry of slot `j` by its two coordinates in the slot. -/
theorem ix_of_mem {j : Fin 4} {i : S4x8x256.Idx} (h : i ∈ slotSet j) : ix j (i 1) (i 2) = i :=
  (congrArg (fun k : Fin 4 => ix k (i 1) (i 2)) ((mem_slotSet j i).mp h).symm).trans (ix_eta i)

/-- Entry `y` of slot `j` is the buffer's entry `(j, y)`. -/
theorem slot_emb (j : Fin 4) (y : S8x256.Idx) : (slotM j).view.emb y = ix j (y 0) (y 1) := by
  show (slotR j).emb (Shape.reshapeEquiv _ y) = _
  have h := Shape.reshapeEquiv_cons_one (n := 2) (d := ![8, 256]) (by decide) y
  funext a; apply Fin.ext
  have e : Shape.reshapeEquiv (s' := S8x256) (s := (slotR j).shape) (Shape.Squeezes.numel_eq squeezes_S1x8x256_S8x256) y = Fin.cons ⟨0, Nat.one_pos⟩ y := h
  rw [Rect.emb_apply]
  fin_cases a
  · show j.val + 1 * ((Shape.reshapeEquiv _ y) 0).val = j.val
    rw [show Shape.reshapeEquiv _ y = _ from e]; rfl
  · show 0 + 1 * ((Shape.reshapeEquiv _ y) 1).val = (y 0).val
    rw [show Shape.reshapeEquiv _ y = _ from e]; show 0 + 1 * (y 0).val = _; omega
  · show 0 + 1 * ((Shape.reshapeEquiv _ y) 2).val = (y 1).val
    rw [show Shape.reshapeEquiv _ y = _ from e]; show 0 + 1 * (y 1).val = _; omega

/-- The slot's elements are the entries of slot `j`. -/
theorem slot_set (j : Fin 4) : (slotM j).view.set = slotSet j := by
  ext i
  constructor
  · intro h
    obtain ⟨y, -, rfl⟩ := Finset.mem_map.mp h
    rw [slot_emb]; exact (mem_slotSet _ _).mpr rfl
  · intro h
    refine Finset.mem_map.mpr ⟨ix2 (i 1) (i 2), Finset.mem_univ _, ?_⟩
    rw [slot_emb]
    exact ix_of_mem h

/-- Reading slot `j` of a buffer. -/
theorem slot_read (j : Fin 4) (f : S4x8x256.Idx → Elt F .f32) (y : S8x256.Idx) :
    (slotM j).view.read (Elt F) f y = f (ix j (y 0) (y 1)) := by
  rw [View.read_apply, slot_emb]; rfl

/-- Writing all of slot `j`, at an entry of the slot. -/
theorem slot_write (j : Fin 4) (f : S4x8x256.Idx → Elt F .f32) (w : S8x256.Idx → Elt F .f32) (i : S4x8x256.Idx) (hi : i ∈ slotSet j) :
    (slotM j).view.write (Elt F) f w Finset.univ i = w (ix2 (i 1) (i 2)) := by
  have h := View.write_emb_of_mem (v := (slotM j).view) (Val := Elt F) f w (Finset.mem_univ (ix2 (i 1) (i 2)))
  rw [slot_emb, show ix j ((ix2 (i 1) (i 2)) 0) ((ix2 (i 1) (i 2)) 1) = i from ix_of_mem hi] at h
  exact h

/-! ## Contents -/

/-- Device `c`'s block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The eight values per row that the kernel picks from a block, one row of the result per rank. -/
def topOf (x : Vec F S256x1024 .f32) : FVec F S8x256 .f32 :=
  k0_pay5 (k0_pay2 x) (k0_pay3 x) (k0_pay4 x) (Scalar.ofBits .f32 0xFF800000#32)

/-- Device `c`'s own eight values per row. -/
def topT (c : Dev nD) : FVec F S8x256 .f32 := topOf (xstg m ρ c)

/-- Device `c`'s slot buffer after the exchange: slot `j` holds the values of the device `j` places on. -/
def joined (c : Dev nD) : S4x8x256.Idx → Elt F .f32 := fun i => topT m ρ (sh (i 0) c) (ix2 (i 1) (i 2))

/-- What the kernel makes of the four slots. -/
def pick (v : Vec F S4x8x256 .f32) : FVec F S256x8 .f32 :=
  k0_pay1 (k0_pay8 v) (k0_pay10 v) (k0_pay12 v) (k0_pay14 v) (k0_pay15 v) (k0_pay16 v)

/-- The kernel's result on device `c`. -/
def outAt (c : Dev nD) : (cc0_stg1_0 : Ref sig .tc).ty.Contents (Elt F) := pick (joined m ρ c)

/-- Slot `j` of device `c` at share `q`, holding what `f` says there. -/
def slotPts (c : Dev nD) (j : Fin 4) (q : PosShare TreeShare) (f : S4x8x256.Idx → Elt F .f32) : sProp 𝕄 :=
  (scr c) ↦[slotSet j]{q} f

omit [FloatOps F] in
instance slotPts_storable (c : Dev nD) (j q f) : BI.Storable (upEmb : UEmb _ 𝕄) (slotPts (F := F) c j q f) := by
  unfold slotPts; infer_instance

omit [FloatOps F] in
theorem slotPts_congr (c : Dev nD) (j : Fin 4) (q : PosShare TreeShare) {f g : S4x8x256.Idx → Elt F .f32} (h : ∀ i ∈ slotSet j, f i = g i) :
    (slotPts c j q f : sProp 𝕄) = slotPts c j q g := pointsTo_congr h

/-- The share of slot 0 lent to the copy of distance `d`. -/
def part (d : Fin 4) : PosShare TreeShare := match d with
  | 0 => fullShare
  | 1 => (fullShare : PosShare TreeShare).left
  | 2 => (fullShare : PosShare TreeShare).right.left
  | 3 => (fullShare : PosShare TreeShare).right.right

omit [FloatOps F] in
/-- Slot 0 is its three shares. -/
theorem slot_parts (c : Dev nD) (f : S4x8x256.Idx → Elt F .f32) :
    (slotPts c 0 fullShare f : sProp 𝕄) ⊣⊢ iprop(slotPts c 0 (part 1) f ∗ slotPts c 0 (part 2) f ∗ slotPts c 0 (part 3) f) := by
  unfold slotPts part
  have h1 := pointsTo_share (Ix := Unit) (Val := Elt F) (Name := ℕ) (U := UU) (Lvl := ℕ) (ℓ := scr c) (I := slotSet 0) (f := f) (PosShare.mem_left_op_right fullShare)
  have h2 := pointsTo_share (Ix := Unit) (Val := Elt F) (Name := ℕ) (U := UU) (Lvl := ℕ) (ℓ := scr c) (I := slotSet 0) (f := f) (PosShare.mem_left_op_right (fullShare : PosShare TreeShare).right)
  exact ⟨h1.1.trans (sep_mono_right h2.1), (sep_mono_right h2.2).trans h1.2⟩

theorem slot_disjoint {j j' : Fin 4} (h : j ≠ j') : Disjoint (slotSet j) (slotSet j') :=
  Finset.disjoint_left.mpr fun i hi hi' => h (((mem_slotSet _ _).mp hi).symm.trans ((mem_slotSet _ _).mp hi'))

theorem slots_univ : (Finset.univ : Finset (Fin 4)).biUnion slotSet = Finset.univ := by
  ext i; exact ⟨fun _ => Finset.mem_univ _, fun _ => Finset.mem_biUnion.mpr ⟨i 0, Finset.mem_univ _, (mem_slotSet _ _).mpr rfl⟩⟩

omit [FloatOps F] in
/-- The slot buffer whole is its four slots. -/
theorem scr_slots (c : Dev nD) (f : S4x8x256.Idx → Elt F .f32) :
    ((scr c) ↦{fullShare} f : sProp 𝕄)
      = iprop(slotPts c 0 fullShare f ∗ slotPts c 1 fullShare f ∗ slotPts c 2 fullShare f ∗ slotPts c 3 fullShare f) := by
  have h := pointsTo_biUnion (Ix := Unit) (Val := Elt F) (Name := ℕ) (U := UU) (Lvl := ℕ) (ℓ := scr c) (q := fullShare) (f := f)
    (Finset.univ : Finset (Fin 4)) slotSet fun _ _ _ _ hne => slot_disjoint hne
  rw [slots_univ] at h
  rw [h, bigSep_univ_eq_bigSepL [(0 : Fin 4), 1, 2, 3] (by decide) (by decide)]
  rfl

/-! ## The semaphores -/

/-- The barrier semaphore, and the kernel's own: three for the copies out, four for the copies in (the first unused). -/
abbrev barS : Sem sig := (SemArray.scalar (sig.barrier 0 rfl) : Sems sig S_).sem
abbrev snd1 : DmaSem sig := ((cc0_scratch1.slice (Rect.unit (s := S3) ![0] S1.size inb_S3_S1_0)).squeeze S_ squeezes_S1_S_ : DmaSems sig S_).sem
abbrev snd2 : DmaSem sig := ((cc0_scratch1.slice (Rect.unit (s := S3) ![1] S1.size inb_S3_S1_1)).squeeze S_ squeezes_S1_S_ : DmaSems sig S_).sem
abbrev snd3 : DmaSem sig := ((cc0_scratch1.slice (Rect.unit (s := S3) ![2] S1.size inb_S3_S1_2)).squeeze S_ squeezes_S1_S_ : DmaSems sig S_).sem
abbrev rcv0 : DmaSem sig := ((cc0_scratch2.slice (Rect.unit (s := S4) ![0] S1.size (by decide))).squeeze S_ squeezes_S1_S_ : DmaSems sig S_).sem
abbrev rcv1 : DmaSem sig := ((cc0_scratch2.slice (Rect.unit (s := S4) ![1] S1.size inb_S4_S1_1)).squeeze S_ squeezes_S1_S_ : DmaSems sig S_).sem
abbrev rcv2 : DmaSem sig := ((cc0_scratch2.slice (Rect.unit (s := S4) ![2] S1.size inb_S4_S1_2)).squeeze S_ squeezes_S1_S_ : DmaSems sig S_).sem
abbrev rcv3 : DmaSem sig := ((cc0_scratch2.slice (Rect.unit (s := S4) ![3] S1.size inb_S4_S1_3)).squeeze S_ squeezes_S1_S_ : DmaSems sig S_).sem

/-- The semaphore of the copy of distance `d` (none at 0: the fourth receive semaphore's place), and of slot `j`. -/
abbrev sndS (d : Fin 4) : DmaSem sig := match d with | 0 => rcv0 | 1 => snd1 | 2 => snd2 | 3 => snd3
abbrev rcvS (j : Fin 4) : DmaSem sig := match j with | 0 => rcv0 | 1 => rcv1 | 2 => rcv2 | 3 => rcv3

abbrev barCell (c : Dev nD) : GSem nD τ sig := ((c : Thread nD τ), .reg barS)
abbrev sndCell (d : Fin 4) (c : Dev nD) : GSem nD τ sig := ((c : Thread nD τ), .dma (sndS d))
abbrev rcvCell (j : Fin 4) (c : Dev nD) : GSem nD τ sig := ((c : Thread nD τ), .dma (rcvS j))

/-- The kernel's own semaphores, and all eight of the exchange. -/
abbrev osem : Fin 7 → SemLoc sig := fun
  | 0 => .dma snd1 | 1 => .dma snd2 | 2 => .dma snd3 | 3 => .dma rcv0 | 4 => .dma rcv1 | 5 => .dma rcv2 | 6 => .dma rcv3
abbrev csem : Fin 8 → SemLoc sig := fun
  | 0 => .reg barS | 1 => .dma snd1 | 2 => .dma snd2 | 3 => .dma snd3 | 4 => .dma rcv0 | 5 => .dma rcv1 | 6 => .dma rcv2 | 7 => .dma rcv3
abbrev kcell (ck : Dev nD × Fin 8) : GSem nD τ sig := ((ck.1 : Thread nD τ), csem ck.2)

theorem csem_injective : Function.Injective csem := by decide

/-- Which of the eight a semaphore is. -/
def kind (sm : SemLoc sig) : Option (Fin 8) :=
  if sm = csem 0 then some 0 else if sm = csem 1 then some 1 else if sm = csem 2 then some 2 else if sm = csem 3 then some 3
  else if sm = csem 4 then some 4 else if sm = csem 5 then some 5 else if sm = csem 6 then some 6 else if sm = csem 7 then some 7 else none

theorem kind_csem (k : Fin 8) : kind (csem k) = some k := by revert k; decide

/-- What one copy adds to a semaphore. -/
abbrev N : ℕ := (slotM 0).view.dmaCredit
theorem N_pos : 0 < N := View.dmaCredit_pos _ (by decide)

/-! ## The schedule -/

/-- What the signal of distance `e` hands device `c`: slot `e` of the device it came from, and that its receive
    semaphore for that slot is at its first round. -/
def barPay (c : Dev nD) (e : Fin 4) : sProp 𝕄 :=
  iprop((∃ f, slotPts (sh (-e) c) e fullShare f) ∗ reached ER (rcvCell e (sh (-e) c)) 0)
/-- What the copy of distance `d` returns to its sender: the share of slot 0. -/
def sndPay (c : Dev nD) (d : Fin 4) : sProp 𝕄 := slotPts c 0 (part d) (joined m ρ c)
/-- What a copy into slot `j` gives its owner: the slot, holding the sender's values. -/
def rcvPay (c : Dev nD) (j : Fin 4) : sProp 𝕄 := slotPts c j fullShare (joined m ρ c)

/-- The duties of a semaphore's one round. -/
def dutyK (k : Option (Fin 8)) : Finset (Fin 4) := match k with
  | none => ∅ | some 0 => {1, 2, 3} | some 1 => {0} | some 2 => {0} | some 3 => {0} | some 4 => ∅ | some 5 => {0} | some 6 => {0} | some 7 => {0}
/-- What each hands over. -/
def payK (k : Option (Fin 8)) (c : Dev nD) (d : Fin 4) : sProp 𝕄 := match k with
  | none => iprop(emp) | some 0 => barPay c d | some 1 => sndPay m ρ c 1 | some 2 => sndPay m ρ c 2 | some 3 => sndPay m ρ c 3
  | some 4 => iprop(emp) | some 5 => rcvPay m ρ c 1 | some 6 => rcvPay m ρ c 2 | some 7 => rcvPay m ρ c 3

/-- The exchange's schedule. -/
def Rd : Rounds.Schedule (GSem nD τ sig) (Fin 4) 𝕄 where
  duties g r := if r = 0 ∧ g.1.2 = .tc then dutyK (kind g.2) else ∅
  unitless _ := False
  amount g _ _ := if g.2 = .reg barS then 1 else N
  payload g _ d := payK m ρ (kind g.2) g.1.1 d
  amount_pos g _ _ _ := by
    by_cases h : g.2 = .reg barS
    · rw [if_pos h]; exact Nat.one_pos
    · rw [if_neg h]; exact N_pos

instance Rd_payload_storable (g : GSem nD τ sig) (r : ℕ) (d : Fin 4) :
    BI.Storable (upEmb : UEmb _ 𝕄) ((Rd (F := F) m ρ).payload g r d) := by
  show BI.Storable upEmb (payK m ρ (kind g.2) g.1.1 d)
  unfold payK barPay sndPay rcvPay
  split <;> infer_instance

section Sched
variable (c : Dev nD)

omit [FloatOps F] in
theorem duties_k [FloatOps F] (k : Fin 8) : (Rd (F := F) m ρ).duties (kcell (c, k)) 0 = dutyK (some k) := by
  dsimp only [Rd]; rw [if_pos ⟨rfl, rfl⟩, kind_csem]
theorem payload_k (k : Fin 8) (d : Fin 4) : (Rd (F := F) m ρ).payload (kcell (c, k)) 0 d = payK m ρ (some k) c d := by
  dsimp only [Rd]; rw [kind_csem]
theorem duties_later (g : GSem nD τ sig) : ∀ r, 1 ≤ r → (Rd (F := F) m ρ).duties g r = ∅ :=
  fun r hr => by dsimp only [Rd]; rw [if_neg fun h => by omega]
theorem amount_bar (d : Fin 4) : (Rd (F := F) m ρ).amount (barCell c) 0 d = 1 := by dsimp only [Rd]; exact if_pos rfl
theorem amount_snd (j d : Fin 4) : (Rd (F := F) m ρ).amount (sndCell j c) 0 d = N := by dsimp only [Rd]; exact if_neg fun h => by cases h
theorem amount_rcv (j d : Fin 4) : (Rd (F := F) m ρ).amount (rcvCell j c) 0 d = N := by dsimp only [Rd]; exact if_neg fun h => by cases h

theorem duties_bar : (Rd (F := F) m ρ).duties (barCell c) 0 = {1, 2, 3} := duties_k m ρ c 0
theorem duties_snd (j : Fin 4) (hj : j ≠ 0) : (Rd (F := F) m ρ).duties (sndCell j c) 0 = {0} := by
  fin_cases j
  · exact absurd rfl hj
  · exact duties_k m ρ c 1
  · exact duties_k m ρ c 2
  · exact duties_k m ρ c 3
theorem duties_rcv (j : Fin 4) (hj : j ≠ 0) : (Rd (F := F) m ρ).duties (rcvCell j c) 0 = {0} := by
  fin_cases j
  · exact absurd rfl hj
  · exact duties_k m ρ c 5
  · exact duties_k m ρ c 6
  · exact duties_k m ρ c 7
theorem payload_bar (d : Fin 4) : (Rd (F := F) m ρ).payload (barCell c) 0 d = barPay c d := payload_k m ρ c 0 d
theorem payload_snd (j d : Fin 4) (hj : j ≠ 0) : (Rd (F := F) m ρ).payload (sndCell j c) 0 d = sndPay m ρ c j := by
  fin_cases j
  · exact absurd rfl hj
  · exact payload_k m ρ c 1 d
  · exact payload_k m ρ c 2 d
  · exact payload_k m ρ c 3 d
theorem payload_rcv (j d : Fin 4) (hj : j ≠ 0) : (Rd (F := F) m ρ).payload (rcvCell j c) 0 d = rcvPay m ρ c j := by
  fin_cases j
  · exact absurd rfl hj
  · exact payload_k m ρ c 5 d
  · exact payload_k m ρ c 6 d
  · exact payload_k m ρ c 7 d

theorem expect_bar : (Rd (F := F) m ρ).expect (barCell c) 0 = 3 := by
  unfold Schedule.expect Schedule.amountOf
  rw [duties_bar, Finset.sum_congr rfl fun d _ => amount_bar m ρ c d]; rfl
theorem expect_snd (j : Fin 4) (hj : j ≠ 0) : (Rd (F := F) m ρ).expect (sndCell j c) 0 = N := by
  unfold Schedule.expect Schedule.amountOf
  rw [duties_snd m ρ c j hj, Finset.sum_singleton, amount_snd]
theorem expect_rcv (j : Fin 4) (hj : j ≠ 0) : (Rd (F := F) m ρ).expect (rcvCell j c) 0 = N := by
  unfold Schedule.expect Schedule.amountOf
  rw [duties_rcv m ρ c j hj, Finset.sum_singleton, amount_rcv]

/-- All that a device's barrier wait hands it: the three slots it will copy into. -/
theorem rest_bar : bigSep ((Rd (F := F) m ρ).duties (barCell c) 0 \ ∅) (fun d => (Rd (F := F) m ρ).payload (barCell c) 0 d)
    = iprop(barPay c 1 ∗ barPay c 2 ∗ barPay c 3) := by
  rw [Finset.sdiff_empty, duties_bar, bigSep_eq_bigSepL_of_eq [(1 : Fin 4), 2, 3] (by decide) (by decide), bigSepL_cons_cons, bigSepL_cons_cons,
    bigSepL_singleton, payload_bar, payload_bar, payload_bar]
  rfl
theorem rest_snd (j : Fin 4) (hj : j ≠ 0) : bigSep ((Rd (F := F) m ρ).duties (sndCell j c) 0 \ ∅) (fun d => (Rd (F := F) m ρ).payload (sndCell j c) 0 d)
    = sndPay m ρ c j := by
  rw [Finset.sdiff_empty, duties_snd m ρ c j hj, bigSep_singleton, payload_snd m ρ c j 0 hj]
theorem rest_rcv (j : Fin 4) (hj : j ≠ 0) : bigSep ((Rd (F := F) m ρ).duties (rcvCell j c) 0 \ ∅) (fun d => (Rd (F := F) m ρ).payload (rcvCell j c) 0 d)
    = rcvPay m ρ c j := by
  rw [Finset.sdiff_empty, duties_rcv m ρ c j hj, bigSep_singleton, payload_rcv m ρ c j 0 hj]

end Sched

/-! ## What a device owes at the start, and the levels -/

/-- The copy of distance `d` owed to the receiver's semaphore; the signal of distance `e` owed to its barrier. -/
def owesRcv (d : Fin 4) (c : Dev nD) : CellTallies nD τ sig Unit := tallyAt (rcvCell (-d) (sh d c)) () N
def owesBar (e : Fin 4) (c : Dev nD) : CellTallies nD τ sig Unit := tallyAt (barCell (sh e c)) () 1

/-- The debts left before each step, the next to be paid written last. -/
def Oc (c : Dev nD) : CellTallies nD τ sig Unit := owesRcv 3 c + owesRcv 2 c + owesRcv 1 c
def O₀ (c : Dev nD) : CellTallies nD τ sig Unit := Oc c + owesBar 3 c + owesBar 2 c + owesBar 1 c

def L (g : GSem nD τ sig) : Finset Unit := if g.1.2 = .tc then {()} else ∅
/-- Barrier semaphores at 1, receive semaphores at 2, the others at 0. -/
def lvK (k : Option (Fin 8)) : ℕ := match k with
  | none => 0 | some 0 => 1 | some 1 => 0 | some 2 => 0 | some 3 => 0 | some 4 => 2 | some 5 => 2 | some 6 => 2 | some 7 => 2
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [show (barCell c).2 = csem 0 from rfl, kind_csem]; rfl
theorem lv_rcv (j : Fin 4) (c : Dev nD) : lv (rcvCell j c) () = 2 := by
  show lvK (kind (.dma (rcvS j))) = 2
  clear c; revert j; decide

theorem tally_pos {g₀ g : GSem nD τ sig} {n : ℕ} {u : Unit} (h : 0 < tallyAt g₀ () n g u) : g = g₀ := by
  rw [tallyAt_apply] at h
  by_contra hn
  rw [if_neg fun h' => hn h'.1] at h; exact Nat.lt_irrefl 0 h

/-- Whatever is owed while the copies are out is owed to a receive semaphore. -/
theorem Oc_pos {c : Dev nD} {g : GSem nD τ sig} {u : Unit} (h : 0 < Oc c g u) : ∃ j c', g = rcvCell j c' := by
  unfold Oc at h
  rw [Pi.add_apply, Finsupp.add_apply, Pi.add_apply, Finsupp.add_apply] at h
  by_cases h3 : 0 < owesRcv 3 c g u
  · exact ⟨_, _, tally_pos h3⟩
  by_cases h2 : 0 < owesRcv 2 c g u
  · exact ⟨_, _, tally_pos h2⟩
  exact ⟨_, _, tally_pos (show 0 < owesRcv 1 c g u by omega)⟩

/-- Whatever is owed at the start is owed to a receive or a barrier semaphore. -/
theorem O₀_pos {c : Dev nD} {g : GSem nD τ sig} {u : Unit} (h : 0 < O₀ c g u) : (∃ j c', g = rcvCell j c') ∨ ∃ c', g = barCell c' := by
  unfold O₀ at h
  rw [Pi.add_apply, Finsupp.add_apply, Pi.add_apply, Finsupp.add_apply, Pi.add_apply, Finsupp.add_apply] at h
  by_cases h0 : 0 < Oc c g u
  · exact .inl (Oc_pos h0)
  by_cases h3 : 0 < owesBar 3 c g u
  · exact .inr ⟨_, tally_pos h3⟩
  by_cases h2 : 0 < owesBar 2 c g u
  · exact .inr ⟨_, tally_pos h2⟩
  exact .inr ⟨_, tally_pos (show 0 < owesBar 1 c g u by omega)⟩

omit [FloatOps F] in
/-- Waiting for a staging copy is allowed whatever a device owes. -/
theorem mayWait_stage (c : Dev nD) (q : DmaSem sig) (hq : lvK (kind (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, c', rfl⟩ | ⟨c', rfl⟩ <;> exact Finset.mem_singleton_self _)
      (fun p hp => by rw [Finset.mem_singleton.mp hp]; show lvK (kind (.dma q)) ≤ 0; rw [hq])
      (fun g u hg => by
        rcases O₀_pos hg with ⟨j, c', rfl⟩ | ⟨c', rfl⟩
        · rw [lv_rcv]; decide
        · rw [lv_bar]; decide)
  · rw [MayWait_zero]; iintro -; iempintro

omit [FloatOps F] in
/-- At the barrier wait a device owes its copies only: receive semaphores, above the barrier's level. -/
theorem mayWait_bar (c : Dev nD) : (levAts L lv : sProp 𝕄) ⊢ MayWait (c : Thread nD τ) (.reg barS) () (Oc c) :=
  MayOwe.of_cut (L := L) (lev := lv) 1 (fun p hp => by rw [Finset.mem_singleton.mp hp, L_tc]; exact Finset.mem_singleton_self _)
    (fun g u hg => by obtain ⟨j, c', rfl⟩ := Oc_pos hg; exact Finset.mem_singleton_self _)
    (fun p hp => by rw [Finset.mem_singleton.mp hp]; exact (lv_bar c).le)
    (fun g u hg => by obtain ⟨j, c', rfl⟩ := Oc_pos hg; rw [lv_rcv]; decide)

end Cert.KernelIdeal.Exch

end
-- ==== Proof.KernelIdeal.Body.lean ====
/- ONE DEVICE'S PROGRAM, executed symbolically against the exchange's schedule: every effect in program order takes its
   part of the device's state to the next, from the state the launch gives the device to the slot buffer holding the four
   devices' values and the result buffer what the kernel makes of them. -/
module

public import proofs.«01_k».proof.Proof.KernelIdeal.Exchange
public import Idealize.ShloMosaic.Lib.Pipeline.Value

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's state -/

/-- What is known of all the exchange's semaphores at once: their invariants, under the names `K`, and that each is at
    its first round. -/
def records (K : Dev nD × Fin 8 → ℕ) : sProp 𝕄 :=
  iprop((bigSep Finset.univ fun ck : Dev nD × Fin 8 => cellInv ER (Rd m ρ) (K ck) (kcell ck))
    ∗ bigSep Finset.univ fun ck : Dev nD × Fin 8 => reached ER (kcell ck) 0)

instance records_persistent (K : Dev nD × Fin 8 → ℕ) : BI.Persistent (records m ρ K) := by unfold records; infer_instance

omit [FloatOps F] in
theorem elim_at (ck : Dev nD × Fin 8) (Φ : Dev nD × Fin 8 → sProp 𝕄) : (bigSep Finset.univ Φ : sProp 𝕄) ⊢ Φ ck := bigSep_elim (Finset.mem_univ ck)

/-- One semaphore's invariant out of all of them; -/
theorem inv_of (K : Dev nD × Fin 8 → ℕ) (ck : Dev nD × Fin 8) : records m ρ K ⊢ cellInv ER (Rd m ρ) (K ck) (kcell ck) := by
  unfold records; iintro ⟨H, -⟩; iapply (elim_at (F := F) ck (fun ck => cellInv ER (Rd m ρ) (K ck) (kcell ck))); iexact H
/-- and that it is at its first round. -/
theorem reached_of (K : Dev nD × Fin 8 → ℕ) (ck : Dev nD × Fin 8) : records m ρ K ⊢ reached ER (kcell ck) 0 := by
  unfold records; iintro ⟨-, H⟩; iapply (elim_at (F := F) ck (fun ck => reached ER (kcell ck) 0)); iexact H

/-- The duties a device pays: its three signals, and for each copy the landing at the receiver and the return. -/
def payToks (c : Dev nD) : sProp 𝕄 :=
  iprop(dutyTok ER (barCell (sh 1 c)) 0 1 ∗ dutyTok ER (barCell (sh 2 c)) 0 2 ∗ dutyTok ER (barCell (sh 3 c)) 0 3
    ∗ dutyTok ER (sndCell 1 c) 0 0 ∗ dutyTok ER (sndCell 2 c) 0 0 ∗ dutyTok ER (sndCell 3 c) 0 0
    ∗ dutyTok ER (rcvCell 3 (sh 1 c)) 0 0 ∗ dutyTok ER (rcvCell 2 (sh 2 c)) 0 0 ∗ dutyTok ER (rcvCell 1 (sh 3 c)) 0 0)

/-- A device's own places at its eight semaphores. -/
def places (c : Dev nD) : sProp 𝕄 :=
  iprop(atPos ER (barCell c) 0 ∅ 0 ∗ atPos ER (sndCell 1 c) 0 ∅ 0 ∗ atPos ER (sndCell 2 c) 0 ∅ 0 ∗ atPos ER (sndCell 3 c) 0 ∅ 0
    ∗ atPos ER (rcvCell 0 c) 0 ∅ 0 ∗ atPos ER (rcvCell 1 c) 0 ∅ 0 ∗ atPos ER (rcvCell 2 c) 0 ∅ 0 ∗ atPos ER (rcvCell 3 c) 0 ∅ 0)

/-- The exchange's ghost state at a device. -/
def ghost (K : Dev nD × Fin 8 → ℕ) (c : Dev nD) : sProp 𝕄 := iprop(records m ρ K ∗ places c ∗ payToks c)

/-- The rights to wait: three units of its barrier semaphore, one copy on each receive semaphore. -/
def credits (c : Dev nD) : sProp 𝕄 :=
  iprop(cred (tallyAt (barCell c) () 3) ∗ cred (tallyAt (rcvCell 1 c) () N) ∗ cred (tallyAt (rcvCell 2 c) () N) ∗ cred (tallyAt (rcvCell 3 c) () N))

/-- What a device's program starts from, besides its buffers. -/
def start (c : Dev nD) : sProp 𝕄 := iprop((∃ K, ghost m ρ K c) ∗ credits c ∗ levAts L lv)

/-- Before the program: that, and the slot buffer with any contents. -/
def Φ₀ (c : Dev nD) : sProp 𝕄 := iprop(start m ρ c ∗ ∃ f : Buf (Elt F) (scr c), (scr c) ↦{fullShare} f)
/-- After it: the slot buffer with the four devices' values, all eight semaphores at zero. -/
def Φ₁ (c : Dev nD) : sProp 𝕄 :=
  iprop(((scr c) ↦{fullShare} (joined m ρ c))
    ∗ semVal (barCell c) 0 ∗ semVal (sndCell 1 c) 0 ∗ semVal (sndCell 2 c) 0 ∗ semVal (sndCell 3 c) 0
    ∗ semVal (rcvCell 0 c) 0 ∗ semVal (rcvCell 1 c) 0 ∗ semVal (rcvCell 2 c) 0 ∗ semVal (rcvCell 3 c) 0)

/-- The staged operands' contents and what is owed, before and after the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The loads and stores -/

omit [FloatOps F] in
theorem zeros2 : (![0, 0] : Fin 2 → Nat) = fun _ => 0 := funext fun a => by fin_cases a <;> rfl
omit [FloatOps F] in
theorem zeros3 : (![0, 0, 0] : Fin 3 → Nat) = fun _ => 0 := funext fun a => by fin_cases a <;> rfl

theorem read_x (f : (cc0_stg0_0 : Ref sig .tc).ty.Contents (Elt F)) :
    xM.view.readAt (Elt F) (Rect.unit (s := S256x1024) ![0, 0] S256x1024.size inb_S256x1024_S256x1024_0_0).toLoadRect f = f :=
  Memref.readAt_unit_zero (Elt F) cc0_stg0_0 zeros2 _ f
theorem read_scr (f : (cc0_scratch0 : Ref sig .tc).ty.Contents (Elt F)) :
    sM.view.readAt (Elt F) (Rect.unit (s := S4x8x256) ![0, 0, 0] S4x8x256.size inb_S4x8x256_S4x8x256_0_0_0).toLoadRect f = f :=
  Memref.readAt_unit_zero (Elt F) cc0_scratch0 zeros3 _ f
theorem write_out (f w : (cc0_stg1_0 : Ref sig .tc).ty.Contents (Elt F)) :
    (oM.access (Rect.unit (s := S256x8) ![0, 0] S256x8.size inb_S256x8_S256x8_0_0) : View sig .tc _ _ _).write (Elt F) f w Finset.univ = w :=
  Memref.write_access_unit_zero_univ (Elt F) cc0_stg1_0 zeros2 _ f w

/-- The kernel's own window on slot 0. -/
abbrev rect0 : Rect S4x8x256 := Rect.unit (s := S4x8x256) ![0, 0, 0] S1x8x256.size inb_S4x8x256_S1x8x256_0_0_0

/-- An entry of the window is one of slot 0. -/
theorem rect0_emb (y : rect0.shape.Idx) : rect0.emb y = ix 0 (y 1) (y 2) := by
  funext a; apply Fin.ext
  rw [Rect.emb_apply]
  fin_cases a
  · show 0 + 1 * (y 0).val = 0
    have h : (y 0).val < 1 := (y 0).isLt
    omega
  · show 0 + 1 * (y 1).val = (y 1).val; omega
  · show 0 + 1 * (y 2).val = (y 2).val; omega

theorem rect0_access (M) : (sM.access rect0).setOn M ⊆ slotSet 0 := by
  intro i hi
  obtain ⟨y, -, rfl⟩ := Finset.mem_map.mp hi
  rw [show (sM.access rect0).emb y = ix 0 (y 1) (y 2) from rect0_emb y]
  exact (mem_slotSet _ _).mpr rfl

theorem rect0_load : sM.view.setOn rect0.toLoadRect.set ⊆ slotSet 0 := by
  intro i hi
  obtain ⟨y, hy, rfl⟩ := Finset.mem_map.mp hi
  have h := Rect.mem_set_unit.mp hy 0
  have h1 : (y 0).val < 0 + 1 := h.2
  exact Finset.mem_filter.mpr ⟨Finset.mem_univ _, show (y 0).val = 0 by omega⟩

/-- Storing an 8 × 256 array through the window writes it to slot 0. -/
theorem store0 (f : S4x8x256.Idx → Elt F .f32) (w : FVec F S8x256 .f32) (i : S4x8x256.Idx) (hi : i ∈ slotSet 0) :
    (sM.access rect0).write (Elt F) f (k0_pay6 w) Finset.univ i = w (ix2 (i 1) (i 2)) := by
  let y : S1x8x256.Idx := Fin.cons (α := fun a => Fin (S1x8x256.size a)) (0 : Fin 1) (ix2 (i 1) (i 2))
  have h := View.write_emb_of_mem (v := sM.access rect0) (Val := Elt F) f (k0_pay6 w) (Finset.mem_univ y)
  rw [show (sM.access rect0).emb y = ix 0 (y 1) (y 2) from rect0_emb y, show ix 0 (y 1) (y 2) = i from ix_of_mem hi] at h
  rw [h]
  show shapeCast S1x8x256 w _ y = _
  refine shapeCast_apply w _ y (ix2 (i 1) (i 2)) ?_
  have e : Shape.reshapeEquiv (s := S1x8x256) (s' := S8x256) (by decide) (ix2 (i 1) (i 2)) = y :=
    Shape.reshapeEquiv_cons_one (n := 2) (d := ![8, 256]) (by decide) (ix2 (i 1) (i 2))
  rw [← e, Shape.rowMajor_reshapeEquiv]

/-- A device's own slot 0 after the exchange holds its own values. -/
theorem joined_own (c : Dev nD) (i : S4x8x256.Idx) (hi : i ∈ slotSet 0) : joined m ρ c i = topT m ρ c (ix2 (i 1) (i 2)) := by
  show topT m ρ (sh (i 0) c) _ = _
  rw [show sh (i 0) c = c from ((mem_slotSet 0 i).mp hi) ▸ sh_zero c]

/-- The kernel's store leaves slot 0 as it is after the exchange. -/
theorem store0_pts (c : Dev nD) (f : S4x8x256.Idx → Elt F .f32) :
    ((sM.access rect0).loc (c : Thread nD τ) ↦[slotSet 0]{fullShare} ((sM.access rect0).write (Elt F) f
        (k0_pay6 (k0_pay5 (k0_pay2 (xstg m ρ c)) (k0_pay3 (xstg m ρ c)) (k0_pay4 (xstg m ρ c)) (FloatOps.ofBits .f32 0xFF800000#32))) Finset.univ) : sProp 𝕄)
      ⊢ slotPts c 0 fullShare (joined m ρ c) :=
  Entails.of_eq (slotPts_congr (F := F) c 0 fullShare
    (fun i hi => (store0 f (topT m ρ c) i hi).trans (joined_own m ρ c i hi).symm))

/-- What a copy leaves in the receiver's slot `j`: the values of the device `j` places after the receiver, the sender. -/
theorem copy_lands (c : Dev nD) (d j : Fin 4) (hdj : sh j (sh d c) = c) (f : S4x8x256.Idx → Elt F .f32) (i : S4x8x256.Idx) (hi : i ∈ slotSet j) :
    (slotM j).view.write (Elt F) f ((slotM 0).view.read (Elt F) (joined m ρ c)) Finset.univ i = joined m ρ (sh d c) i := by
  rw [slot_write j f _ i hi, slot_read, joined_own m ρ c _ ((mem_slotSet _ _).mpr rfl)]
  show topT m ρ c _ = topT m ρ (sh (i 0) (sh d c)) _
  rw [show sh (i 0) (sh d c) = c from ((mem_slotSet j i).mp hi) ▸ hdj]
  rfl

/-! ## One copy -/

/-- The copy of slot 0 to slot `j` of the device `d` places on, whose own distance to `c` is `j`. -/
theorem wp_copy (c n : Dev nD) (d j : Fin 4) (hd : d ≠ 0) (hj : j ≠ 0) (hdj : sh j (sh d c) = c) (hn : n = sh d c)
    {hsc : (slotM j : Memref sig (Dev.tc n : Thread nD τ).2.kind .vmem S8x256 .f32).view.ref.isScScratch = false}
    {hsrc : (slotM 0).view.WordExact} {hdst : (slotM j).view.WordExact}
    {hsem : DmaTarget.Typed .vmem (.dma (rcvS j)) (.remote (Dev.tc n : Thread nD τ) (slotM j) (.dma (sndS d)) hsc)}
    {κ₁ κ₂ : ℕ} {α : Type} {Q : α → sProp 𝕄} {k : PUnit → Prog (TpuEff nD τ sig (Elt F) Λ₀ .tc) α}
    (fn : Buf (Elt F) (scr (sh d c))) (O : CellTallies nD τ sig Unit) (W : Waits sig Unit) :
    iprop(cellInv ER (Rd m ρ) κ₁ (sndCell d c) ∗ cellInv ER (Rd m ρ) κ₂ (rcvCell j (sh d c))
        ∗ slotPts c 0 (part d) (joined m ρ c) ∗ slotPts (sh d c) j fullShare fn
        ∗ owes (c : Thread nD τ) (O + tallyAt (rcvCell j (sh d c)) () N) W
        ∗ dutyTok ER (sndCell d c) 0 0 ∗ reached ER (sndCell d c) 0
        ∗ dutyTok ER (rcvCell j (sh d c)) 0 0 ∗ reached ER (rcvCell j (sh d c)) 0)
      ⊢ iprop(((cred (tallyAt (sndCell d c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM j) (.dma (sndS d)) hsc) (.dma (rcvS j)) hsrc hdst hsem) k) Q) := by
  subst hn
  unfold slotPts
  rw [← slot_set 0, ← slot_set j]
  have hN : (slotM j).view.amount (.dma (rcvS j)) = N := rfl
  have h1 : (0 : Fin 4) ∈ (Rd (F := F) m ρ).duties (sndCell d c) 0 := by rw [duties_snd m ρ c d hd]; exact Finset.mem_singleton_self _
  have h2 : (0 : Fin 4) ∈ (Rd (F := F) m ρ).duties (rcvCell j (sh d c)) 0 := by rw [duties_rcv m ρ _ j hj]; exact Finset.mem_singleton_self _
  have p1 : ((slotM 0).view.loc (c : Thread nD τ) ↦[(slotM 0).view.set]{part d} (joined m ρ c) : sProp 𝕄) ⊢ (Rd m ρ).payload (sndCell d c) 0 0 := by
    rw [payload_snd m ρ c d 0 hd, slot_set]; exact BI.Entails.refl _
  have p2 : ((slotM j).view.loc (Dev.tc (sh d c) : Thread nD τ) ↦[(slotM j).view.set]{fullShare}
        ((slotM j).view.write (Elt F) fn ((slotM 0).view.read (Elt F) (joined m ρ c)) Finset.univ) : sProp 𝕄)
      ⊢ (Rd m ρ).payload (rcvCell j (sh d c)) 0 0 := by
    rw [payload_rcv m ρ (sh d c) j 0 hj, slot_set]
    exact Entails.of_eq (slotPts_congr (F := F) (sh d c) j fullShare fun i hi => copy_lands m ρ c d j hdj fn i hi)
  exact Rounds.wp_send_pointsTo (c' := (Dev.tc (sh d c) : Thread nD τ)) (src := slotM 0) (dst := slotM j) (sS := .dma (sndS d)) (sem := .dma (rcvS j))
    (q := part d) (fs := joined m ρ c) (fd := fn) 𝒱₀ ER (Rd m ρ) (c : Thread nD τ) none
    h1 h2 () () N hN (amount_snd m ρ c d 0) (amount_rcv m ρ (sh d c) j 0) O rfl p1 p2

/-! ## The program -/

section Body

variable (K : Dev nD × Fin 8 → ℕ)

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The one grid point. -/
abbrev t₀ : Fin cfg0.N := t0_0

/-- The receive semaphore of slot 0 has no duty at all. -/
theorem duties_unused (c : Dev nD) : ∀ r, 0 ≤ r → (Rd (F := F) m ρ).duties (rcvCell 0 c) r = ∅ := fun r _ => by
  rcases Nat.eq_zero_or_pos r with rfl | h
  · exact duties_k m ρ c 4
  · exact duties_later m ρ _ r h

/-- What the barrier wait hands over, spelt out: slot 1 three places on, slot 2 two places on, slot 3 one place on. -/
theorem rest_bar_slots (c : Dev nD) : bigSep ((Rd (F := F) m ρ).duties (barCell c) 0 \ ∅) (fun d => (Rd (F := F) m ρ).payload (barCell c) 0 d)
    = iprop(((∃ f, slotPts (sh 3 c) 1 fullShare f) ∗ reached ER (rcvCell 1 (sh 3 c)) 0)
      ∗ ((∃ f, slotPts (sh 2 c) 2 fullShare f) ∗ reached ER (rcvCell 2 (sh 2 c)) 0)
      ∗ ((∃ f, slotPts (sh 1 c) 3 fullShare f) ∗ reached ER (rcvCell 3 (sh 1 c)) 0)) := (rest_bar m ρ c).trans rfl

def bodyPre (c : Dev nD) : sProp 𝕄 :=
  iprop((ghost m ρ K c ∗ credits c ∗ levAts L lv ∗ ∃ f : Buf (Elt F) (scr c), (scr c) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxHeartbeats 4000000 in
/-- A device's program takes its first state to its last. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost places payToks credits
  iintro ⟨⟨⟨⟨#HR, ⟨HaB, HaS1, HaS2, HaS3, HaV0, HaV1, HaV2, HaV3⟩, Ht1, Ht2, Ht3, Hs1, Hs2, Hs3, Hv3, Hv2, Hv1⟩,
    ⟨HcB, Hcr1, Hcr2, Hcr3⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hsl := (Entails.of_eq (scr_slots (F := F) c f0)) $$ Hscr
  icases Hsl with ⟨Hl0, Hl1, Hl2, Hl3⟩
  simp only [dev1_eq c, dev2_eq c, dev3_eq c]
  unfold O₀
  -- the signal 1 places on, handing over slot 1
  iapply (Rounds.wp_signal 𝒱₀ ER (Rd m ρ) (c : Thread nD τ) none (dst := (sh 1 c : Thread nD τ)) (κ := K (sh 1 c, 0))
      (d := 1) (by rw [duties_bar]; decide) ((amount_bar m ρ (sh 1 c) 1).trans (by decide)) () (Oc c + owesBar 3 c + owesBar 2 c) rfl)
    $$ [HO Ht1 Hl1]
  · isplitr; · iapply (inv_of m ρ K (sh 1 c, 0)); iexact HR
    isplitl [HO]; · iexact HO
    isplitl [Ht1]; · iexact Ht1
    isplitl [Hl1]
    · rw [payload_bar]; unfold barPay; rw [sh_neg_sh]
      isplitl [Hl1]; · iexists f0; iexact Hl1
      iapply (reached_of m ρ K (c, 5)); iexact HR
    iapply (reached_of m ρ K (sh 1 c, 0)); iexact HR
  iintro HO
  -- the signal 2 places on, handing over slot 2
  iapply (Rounds.wp_signal 𝒱₀ ER (Rd m ρ) (c : Thread nD τ) none (dst := (sh 2 c : Thread nD τ)) (κ := K (sh 2 c, 0))
      (d := 2) (by rw [duties_bar]; decide) ((amount_bar m ρ (sh 2 c) 2).trans (by decide)) () (Oc c + owesBar 3 c) rfl)
    $$ [HO Ht2 Hl2]
  · isplitr; · iapply (inv_of m ρ K (sh 2 c, 0)); iexact HR
    isplitl [HO]; · iexact HO
    isplitl [Ht2]; · iexact Ht2
    isplitl [Hl2]
    · rw [payload_bar]; unfold barPay; rw [sh_neg_sh]
      isplitl [Hl2]; · iexists f0; iexact Hl2
      iapply (reached_of m ρ K (c, 6)); iexact HR
    iapply (reached_of m ρ K (sh 2 c, 0)); iexact HR
  iintro HO
  -- the signal 3 places on, handing over slot 3
  iapply (Rounds.wp_signal 𝒱₀ ER (Rd m ρ) (c : Thread nD τ) none (dst := (sh 3 c : Thread nD τ)) (κ := K (sh 3 c, 0))
      (d := 3) (by rw [duties_bar]; decide) ((amount_bar m ρ (sh 3 c) 3).trans (by decide)) () (Oc c) rfl)
    $$ [HO Ht3 Hl3]
  · isplitr; · iapply (inv_of m ρ K (sh 3 c, 0)); iexact HR
    isplitl [HO]; · iexact HO
    isplitl [Ht3]; · iexact Ht3
    isplitl [Hl3]
    · rw [payload_bar]; unfold barPay; rw [sh_neg_sh]
      isplitl [Hl3]; · iexists f0; iexact Hl3
      iapply (reached_of m ρ K (c, 7)); iexact HR
    iapply (reached_of m ρ K (sh 3 c, 0)); iexact HR
  iintro HO
  -- the wait for the three signals, owing the three copies: the three slots to copy into come with it
  iapply (Rounds.wp_wait_rest_token 𝒱₀ ER (Rd m ρ) (c : Thread nD τ) none (κ := K (c, 0))
      (wpE_semWait_eq 𝒱₀ (c : Thread nD τ) none Set.univ) (Set.mem_univ _) () (O := Oc c) (W := W) (R := 0) (m := 0) (T := ∅)
      (by rw [expect_bar]; decide)) $$ [HcB HO HaB]
  · isplitr; · iapply (inv_of m ρ K (c, 0)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar_slots m ρ c)) $$ Hpay
  icases Hp with ⟨⟨⟨%fn1, Hn1⟩, -⟩, ⟨⟨%fn2, Hn2⟩, -⟩, ⟨%fn3, Hn3⟩, -⟩
  -- its own eight values into slot 0
  iapply (wp_load 𝒱₀ (c : Thread nD τ) none Set.univ (m := xM) (Finset.subset_univ _)) $$ Hx; iintro Hx
  rw [read_x]
  ihave Hl0 := (Entails.of_eq (show slotPts c 0 fullShare f0 = ((scr c) ↦[slotSet 0]{fullShare} f0 : sProp 𝕄) from rfl)) $$ Hl0
  iapply (wp_load 𝒱₀ (c : Thread nD τ) none Set.univ (m := sM) (S := slotSet 0) rect0_load) $$ Hl0; iintro Hl0
  iapply (wp_store 𝒱₀ (c : Thread nD τ) none Set.univ (m := sM) (r := rect0) (S := slotSet 0) (Mk := Finset.univ) (rect0_access _)) $$ Hl0; iintro Hl0
  ihave Hl0 := (store0_pts m ρ c f0) $$ Hl0
  ihave Hl0 := (slot_parts (F := F) c (joined m ρ c)).1 $$ Hl0
  icases Hl0 with ⟨Hq1, Hq2, Hq3⟩
  unfold Oc
  -- the copy 1 places on, to slot 3 there
  iapply (wp_copy m ρ c _ 1 3 (by decide) (by decide) (by rw [sh_sh]; exact sh_zero c) (dev4_eq c) (κ₁ := K (c, 1)) (κ₂ := K (sh 1 c, 7))
      fn3 (owesRcv 3 c + owesRcv 2 c) (insert (SemLoc.reg barS, ()) W)) $$ [Hq1 Hn3 HO Hs1 Hv3]
  · isplitr; · iapply (inv_of m ρ K (c, 1)); iexact HR
    isplitr; · iapply (inv_of m ρ K (sh 1 c, 7)); iexact HR
    isplitl [Hq1]; · iexact Hq1
    isplitl [Hn3]; · iexact Hn3
    isplitl [HO]; · iexact HO
    isplitl [Hs1]; · iexact Hs1
    isplitr; · iapply (reached_of m ρ K (c, 1)); iexact HR
    isplitl [Hv3]; · iexact Hv3
    iapply (reached_of m ρ K (sh 1 c, 7)); iexact HR
  iintro ⟨Hc1, HO⟩
  -- the copy 2 places on, to slot 2 there
  iapply (wp_copy m ρ c _ 2 2 (by decide) (by decide) (by rw [sh_sh]; exact sh_zero c) (dev5_eq c) (κ₁ := K (c, 2)) (κ₂ := K (sh 2 c, 6))
      fn2 (owesRcv 3 c) (insert (SemLoc.reg barS, ()) W)) $$ [Hq2 Hn2 HO Hs2 Hv2]
  · isplitr; · iapply (inv_of m ρ K (c, 2)); iexact HR
    isplitr; · iapply (inv_of m ρ K (sh 2 c, 6)); iexact HR
    isplitl [Hq2]; · iexact Hq2
    isplitl [Hn2]; · iexact Hn2
    isplitl [HO]; · iexact HO
    isplitl [Hs2]; · iexact Hs2
    isplitr; · iapply (reached_of m ρ K (c, 2)); iexact HR
    isplitl [Hv2]; · iexact Hv2
    iapply (reached_of m ρ K (sh 2 c, 6)); iexact HR
  iintro ⟨Hc2, HO⟩
  rw [show owesRcv 3 c = 0 + tallyAt (rcvCell 1 (sh 3 c)) () N from (zero_add _).symm]
  -- the copy 3 places on, to slot 1 there
  iapply (wp_copy m ρ c _ 3 1 (by decide) (by decide) (by rw [sh_sh]; exact sh_zero c) (dev6_eq c) (κ₁ := K (c, 3)) (κ₂ := K (sh 3 c, 5))
      fn1 (0) (insert (SemLoc.reg barS, ()) W)) $$ [Hq3 Hn1 HO Hs3 Hv1]
  · isplitr; · iapply (inv_of m ρ K (c, 3)); iexact HR
    isplitr; · iapply (inv_of m ρ K (sh 3 c, 5)); iexact HR
    isplitl [Hq3]; · iexact Hq3
    isplitl [Hn1]; · iexact Hn1
    isplitl [HO]; · iexact HO
    isplitl [Hs3]; · iexact Hs3
    isplitr; · iapply (reached_of m ρ K (c, 3)); iexact HR
    isplitl [Hv1]; · iexact Hv1
    iapply (reached_of m ρ K (sh 3 c, 5)); iexact HR
  iintro ⟨Hc3, HO⟩
  -- the wait on the receive semaphore of slot 1
  iapply (Rounds.wp_wait_rest_token 𝒱₀ ER (Rd m ρ) (c : Thread nD τ) none (κ := K (c, 5))
      (wpE_waitDma2_eq 𝒱₀ (c : Thread nD τ) none Set.univ) (Set.mem_univ _) () (O := 0) (W := (insert (SemLoc.reg barS, ()) W)) (R := 0) (m := 0) (T := ∅)
      (by rw [Nat.zero_add]; exact (expect_rcv m ρ c 1 (by decide)).symm)) $$ [Hcr1 HO HaV1]
  · isplitr; · iapply (inv_of m ρ K (c, 5)); iexact HR
    isplitl [Hcr1]; · iexact Hcr1
    isplitl [HO]; · iexact HO
    isplitr; · rw [MayWait_zero]; iempintro
    iexact HaV1
  iintro ⟨HO, HaV1, -, Hpay⟩
  ihave Hl1 := (Entails.of_eq (rest_rcv m ρ c 1 (by decide))) $$ Hpay
  -- the wait on the receive semaphore of slot 2
  iapply (Rounds.wp_wait_rest_token 𝒱₀ ER (Rd m ρ) (c : Thread nD τ) none (κ := K (c, 6))
      (wpE_waitDma2_eq 𝒱₀ (c : Thread nD τ) none Set.univ) (Set.mem_univ _) () (O := 0) (W := (insert (SemLoc.dma rcv1, ()) (insert (SemLoc.reg barS, ()) W))) (R := 0) (m := 0) (T := ∅)
      (by rw [Nat.zero_add]; exact (expect_rcv m ρ c 2 (by decide)).symm)) $$ [Hcr2 HO HaV2]
  · isplitr; · iapply (inv_of m ρ K (c, 6)); iexact HR
    isplitl [Hcr2]; · iexact Hcr2
    isplitl [HO]; · iexact HO
    isplitr; · rw [MayWait_zero]; iempintro
    iexact HaV2
  iintro ⟨HO, HaV2, -, Hpay⟩
  ihave Hl2 := (Entails.of_eq (rest_rcv m ρ c 2 (by decide))) $$ Hpay
  -- the wait on the receive semaphore of slot 3
  iapply (Rounds.wp_wait_rest_token 𝒱₀ ER (Rd m ρ) (c : Thread nD τ) none (κ := K (c, 7))
      (wpE_waitDma2_eq 𝒱₀ (c : Thread nD τ) none Set.univ) (Set.mem_univ _) () (O := 0) (W := (insert (SemLoc.dma rcv2, ()) (insert (SemLoc.dma rcv1, ()) (insert (SemLoc.reg barS, ()) W)))) (R := 0) (m := 0) (T := ∅)
      (by rw [Nat.zero_add]; exact (expect_rcv m ρ c 3 (by decide)).symm)) $$ [Hcr3 HO HaV3]
  · isplitr; · iapply (inv_of m ρ K (c, 7)); iexact HR
    isplitl [Hcr3]; · iexact Hcr3
    isplitl [HO]; · iexact HO
    isplitr; · rw [MayWait_zero]; iempintro
    iexact HaV3
  iintro ⟨HO, HaV3, -, Hpay⟩
  ihave Hl3 := (Entails.of_eq (rest_rcv m ρ c 3 (by decide))) $$ Hpay
  -- the wait on the send semaphore of copy 1
  iapply (Rounds.wp_wait_rest_token 𝒱₀ ER (Rd m ρ) (c : Thread nD τ) none (κ := K (c, 1))
      (wpE_waitDma2_eq 𝒱₀ (c : Thread nD τ) none Set.univ) (Set.mem_univ _) () (O := 0) (W := (insert (SemLoc.dma rcv3, ()) (insert (SemLoc.dma rcv2, ()) (insert (SemLoc.dma rcv1, ()) (insert (SemLoc.reg barS, ()) W))))) (R := 0) (m := 0) (T := ∅)
      (by rw [Nat.zero_add]; exact (expect_snd m ρ c 1 (by decide)).symm)) $$ [Hc1 HO HaS1]
  · isplitr; · iapply (inv_of m ρ K (c, 1)); iexact HR
    isplitl [Hc1]; · iexact Hc1
    isplitl [HO]; · iexact HO
    isplitr; · rw [MayWait_zero]; iempintro
    iexact HaS1
  iintro ⟨HO, HaS1, -, Hpay⟩
  ihave Hp1 := (Entails.of_eq (rest_snd m ρ c 1 (by decide))) $$ Hpay
  -- the wait on the send semaphore of copy 2
  iapply (Rounds.wp_wait_rest_token 𝒱₀ ER (Rd m ρ) (c : Thread nD τ) none (κ := K (c, 2))
      (wpE_waitDma2_eq 𝒱₀ (c : Thread nD τ) none Set.univ) (Set.mem_univ _) () (O := 0) (W := (insert (SemLoc.dma snd1, ()) (insert (SemLoc.dma rcv3, ()) (insert (SemLoc.dma rcv2, ()) (insert (SemLoc.dma rcv1, ()) (insert (SemLoc.reg barS, ()) W)))))) (R := 0) (m := 0) (T := ∅)
      (by rw [Nat.zero_add]; exact (expect_snd m ρ c 2 (by decide)).symm)) $$ [Hc2 HO HaS2]
  · isplitr; · iapply (inv_of m ρ K (c, 2)); iexact HR
    isplitl [Hc2]; · iexact Hc2
    isplitl [HO]; · iexact HO
    isplitr; · rw [MayWait_zero]; iempintro
    iexact HaS2
  iintro ⟨HO, HaS2, -, Hpay⟩
  ihave Hp2 := (Entails.of_eq (rest_snd m ρ c 2 (by decide))) $$ Hpay
  -- the wait on the send semaphore of copy 3
  iapply (Rounds.wp_wait_rest_token 𝒱₀ ER (Rd m ρ) (c : Thread nD τ) none (κ := K (c, 3))
      (wpE_waitDma2_eq 𝒱₀ (c : Thread nD τ) none Set.univ) (Set.mem_univ _) () (O := 0) (W := (insert (SemLoc.dma snd2, ()) (insert (SemLoc.dma snd1, ()) (insert (SemLoc.dma rcv3, ()) (insert (SemLoc.dma rcv2, ()) (insert (SemLoc.dma rcv1, ()) (insert (SemLoc.reg barS, ()) W))))))) (R := 0) (m := 0) (T := ∅)
      (by rw [Nat.zero_add]; exact (expect_snd m ρ c 3 (by decide)).symm)) $$ [Hc3 HO HaS3]
  · isplitr; · iapply (inv_of m ρ K (c, 3)); iexact HR
    isplitl [Hc3]; · iexact Hc3
    isplitl [HO]; · iexact HO
    isplitr; · rw [MayWait_zero]; iempintro
    iexact HaS3
  iintro ⟨HO, HaS3, -, Hpay⟩
  ihave Hp3 := (Entails.of_eq (rest_snd m ρ c 3 (by decide))) $$ Hpay
  -- slot 0 whole again, and with the other three the whole buffer
  unfold sndPay rcvPay
  ihave Hl0 := (slot_parts (F := F) c (joined m ρ c)).2 $$ [Hp1 Hp2 Hp3]
  · isplitl [Hp1]; · iexact Hp1
    isplitl [Hp2] <;> iassumption
  ihave Hscr := (Entails.of_eq (scr_slots (F := F) c (joined m ρ c)).symm) $$ [Hl0 Hl1 Hl2 Hl3]
  · isplitl [Hl0]; · iexact Hl0
    isplitl [Hl1]; · iexact Hl1
    isplitl [Hl2] <;> iassumption
  -- all eight semaphores close at zero
  imod (Rounds.cell_close ER (Rd m ρ) (Set.mem_univ (K (c, 0))) (fun h => h) (R := 0 + 1) (duties_later m ρ (barCell c))) $$ [HaB] with HzB
  · isplitr; · iapply (inv_of m ρ K (c, 0)); iexact HR
    iexact HaB
  imod (Rounds.cell_close ER (Rd m ρ) (Set.mem_univ (K (c, 1))) (fun h => h) (R := 0 + 1) (duties_later m ρ (sndCell 1 c))) $$ [HaS1] with HzS1
  · isplitr; · iapply (inv_of m ρ K (c, 1)); iexact HR
    iexact HaS1
  imod (Rounds.cell_close ER (Rd m ρ) (Set.mem_univ (K (c, 2))) (fun h => h) (R := 0 + 1) (duties_later m ρ (sndCell 2 c))) $$ [HaS2] with HzS2
  · isplitr; · iapply (inv_of m ρ K (c, 2)); iexact HR
    iexact HaS2
  imod (Rounds.cell_close ER (Rd m ρ) (Set.mem_univ (K (c, 3))) (fun h => h) (R := 0 + 1) (duties_later m ρ (sndCell 3 c))) $$ [HaS3] with HzS3
  · isplitr; · iapply (inv_of m ρ K (c, 3)); iexact HR
    iexact HaS3
  imod (Rounds.cell_close ER (Rd m ρ) (Set.mem_univ (K (c, 4))) (fun h => h) (R := 0) (duties_unused m ρ c)) $$ [HaV0] with HzV0
  · isplitr; · iapply (inv_of m ρ K (c, 4)); iexact HR
    iexact HaV0
  imod (Rounds.cell_close ER (Rd m ρ) (Set.mem_univ (K (c, 5))) (fun h => h) (R := 0 + 1) (duties_later m ρ (rcvCell 1 c))) $$ [HaV1] with HzV1
  · isplitr; · iapply (inv_of m ρ K (c, 5)); iexact HR
    iexact HaV1
  imod (Rounds.cell_close ER (Rd m ρ) (Set.mem_univ (K (c, 6))) (fun h => h) (R := 0 + 1) (duties_later m ρ (rcvCell 2 c))) $$ [HaV2] with HzV2
  · isplitr; · iapply (inv_of m ρ K (c, 6)); iexact HR
    iexact HaV2
  imod (Rounds.cell_close ER (Rd m ρ) (Set.mem_univ (K (c, 7))) (fun h => h) (R := 0 + 1) (duties_later m ρ (rcvCell 3 c))) $$ [HaV3] with HzV3
  · isplitr; · iapply (inv_of m ρ K (c, 7)); iexact HR
    iexact HaV3
  -- the four slots read and the result written
  iapply (wp_load 𝒱₀ (c : Thread nD τ) none Set.univ (m := sM) (Finset.subset_univ _)) $$ Hscr; iintro Hscr
  rw [read_scr]
  iapply (wp_load 𝒱₀ (c : Thread nD τ) none Set.univ (m := oM) (Finset.subset_univ _)) $$ Hout; iintro Hout
  iapply (wp_store 𝒱₀ (c : Thread nD τ) none Set.univ (m := oM) (r := Rect.unit (s := S256x8) ![0, 0] S256x8.size inb_S256x8_S256x8_0_0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hscr HzB HzS1 HzS2 HzS3 HzV0 HzV1 HzV2 HzV3]
  · isplitl [Hscr]; · iexact Hscr
    isplitl [HzB]; · iexact HzB
    isplitl [HzS1]; · iexact HzS1
    isplitl [HzS2]; · iexact HzS2
    isplitl [HzS3]; · iexact HzS3
    isplitl [HzV0]; · iexact HzV0
    isplitl [HzV1]; · iexact HzV1
    isplitl [HzV2] <;> iassumption
  isplitl [HO]
  · iexists (insert (SemLoc.dma snd3, ()) (insert (SemLoc.dma snd2, ()) (insert (SemLoc.dma snd1, ()) (insert (SemLoc.dma rcv3, ()) (insert (SemLoc.dma rcv2, ()) (insert (SemLoc.dma rcv1, ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The launch's obligation on a device's program. -/
theorem body_obligation (c : Dev nD) : BodyObligation (dats (F := F) m ρ 0 c) (defs₀ (F := F)) 𝒱₀ () Set.univ := fun t => by
  rw [show t = t₀ from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.KernelIdeal.Exch

end
-- ==== Proof.KernelIdeal.Run.lean ====
/- THE RUN of all sixteen devices: the launch gives every device its semaphores, the duties it pays and the rights to
   wait it holds; together with the one device's program this proves that every execution ends, with each device's result
   at the computed contents, its input unchanged and every semaphore at zero. -/
module

public import proofs.«01_k».proof.Proof.KernelIdeal.Body
public import Idealize.ShloMosaic.Lib.Pipeline.CollectiveSegs

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the duties, dealt -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the exchange's semaphores. -/
def exchCells : Finset (GSem nD τ sig) := Finset.univ.map ⟨kcell, kcell_injective⟩

/-- The nine duties of a device's own semaphores: which of its semaphores, and which duty. -/
def tokKind : Fin 9 → Fin 8 × Fin 4 := fun
  | 0 => (0, 1) | 1 => (0, 2) | 2 => (0, 3) | 3 => (1, 0) | 4 => (2, 0) | 5 => (3, 0) | 6 => (5, 0) | 7 => (6, 0) | 8 => (7, 0)
theorem tokKind_injective : Function.Injective tokKind := by decide
/-- The duties by device. -/
abbrev tokOf (cj : Dev nD × Fin 9) : GSem nD τ sig × ℕ × Fin 4 := (kcell (cj.1, (tokKind cj.2).1), 0, (tokKind cj.2).2)
theorem tokOf_injective : Function.Injective (tokOf : Dev nD × Fin 9 → GSem nD τ sig × ℕ × Fin 4) := by
  rintro ⟨c, j⟩ ⟨c', j'⟩ h
  have h1 := kcell_injective (congrArg Prod.fst h)
  have h2 : (tokKind j).2 = (tokKind j').2 := congrArg (fun x : GSem nD τ sig × ℕ × Fin 4 => x.2.2) h
  have h3 : j = j' := tokKind_injective (Prod.ext (congrArg Prod.snd h1) h2)
  have h4 : c = c' := congrArg Prod.fst h1
  rw [h3, h4]
/-- All the duties. -/
def exchToks : Finset (GSem nD τ sig × ℕ × Fin 4) := Finset.univ.map ⟨tokOf, tokOf_injective⟩

/-- The ghost state at the start. -/
def u₀ : UU :=
  (initOf (Pipeline.cells cfgs cellOf_inj) (Pipeline.launchToks cfgs cellOf_inj), initOf exchCells exchToks)

/-- The duties of device `c`'s own semaphores. -/
def toks (c : Dev nD) : sProp 𝕄 :=
  iprop(dutyTok ER (barCell c) 0 1 ∗ dutyTok ER (barCell c) 0 2 ∗ dutyTok ER (barCell c) 0 3
    ∗ dutyTok ER (sndCell 1 c) 0 0 ∗ dutyTok ER (sndCell 2 c) 0 0 ∗ dutyTok ER (sndCell 3 c) 0 0
    ∗ dutyTok ER (rcvCell 1 c) 0 0 ∗ dutyTok ER (rcvCell 2 c) 0 0 ∗ dutyTok ER (rcvCell 3 c) 0 0)

/-- What the start gives device `c`: its semaphores' rounds, its places at them, and their duties. -/
def G (c : Dev nD) : sProp 𝕄 :=
  iprop((bigSep Finset.univ fun k : Fin 8 => roundState ER (Rd m ρ) (kcell (c, k)) 0)
    ∗ (bigSep Finset.univ fun k : Fin 8 => iprop(atPos ER (kcell (c, k)) 0 ∅ 0 ∗ reached ER (kcell (c, k)) 0)) ∗ toks c)

/-- What that becomes once the duties are dealt to the devices that pay them. -/
def G' (c : Dev nD) : sProp 𝕄 := iprop(∃ K, ghost m ρ K c)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_exch : BI.own (ER (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun k : Fin 8 => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => toks c := by
    unfold exchToks; rw [bigSep_map, bigSep_univ_prod]
    exact bigSep_congr fun c _ => by unfold toks; rw [bigSep_fin9]; rfl
  iintro HX
  imod (Rounds.fund ER (Rd m ρ) exchCells exchToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own seven semaphores; -/
theorem ownSems0_eq (c : Dev nD) : (Pipeline.ownSems0 (Ix := Unit) (Name := ℕ) (U := UU) (Lvl := ℕ) (Val := Elt F) (τ := τ) osem c : sProp 𝕄)
    = iprop(semVal (sndCell 1 c) 0 ∗ semVal (sndCell 2 c) 0 ∗ semVal (sndCell 3 c) 0
      ∗ semVal (rcvCell 0 c) 0 ∗ semVal (rcvCell 1 c) 0 ∗ semVal (rcvCell 2 c) 0 ∗ semVal (rcvCell 3 c) 0) := by
  rw [Pipeline.ownSems0_eq_of_list c osem [0, 1, 2, 3, 4, 5, 6] (by decide) (by decide)]; rfl
omit [FloatOps F] in
/-- the barrier semaphore is the one outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The duties dealt round the groups: each to the device that pays it. -/
theorem toks_around : (bigSep Finset.univ fun c : Dev nD => (toks c : sProp 𝕄)) ⊢ bigSep Finset.univ fun c : Dev nD => payToks c := by
  unfold toks payToks
  simp only [bigSep_sep']
  rw [bigSep_univ_equiv (shE 1) (fun c : Dev nD => (dutyTok ER (barCell c) 0 1 : sProp 𝕄)),
    bigSep_univ_equiv (shE 2) (fun c : Dev nD => (dutyTok ER (barCell c) 0 2 : sProp 𝕄)),
    bigSep_univ_equiv (shE 3) (fun c : Dev nD => (dutyTok ER (barCell c) 0 3 : sProp 𝕄)),
    bigSep_univ_equiv (shE 3) (fun c : Dev nD => (dutyTok ER (rcvCell 1 c) 0 0 : sProp 𝕄)),
    bigSep_univ_equiv (shE 2) (fun c : Dev nD => (dutyTok ER (rcvCell 2 c) 0 0 : sProp 𝕄)),
    bigSep_univ_equiv (shE 1) (fun c : Dev nD => (dutyTok ER (rcvCell 3 c) 0 0 : sProp 𝕄))]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H8]; · iexact H8
  iexact H7

/-- A device's places and duties. -/
def linear (c : Dev nD) : sProp 𝕄 := iprop(places c ∗ payToks c)

theorem ghost_intro (K : Dev nD × Fin 8 → ℕ) (c : Dev nD) : iprop(records m ρ K ∗ linear c) ⊢ G' m ρ c := by
  unfold linear G' ghost
  iintro ⟨HR, HL⟩
  iexists K
  isplitl [HR] <;> iassumption

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 8 => iprop(∃ κ : ℕ, cellInv ER (Rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (Rd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply ((Entails.of_eq (bigSep_sep' Finset.univ (fun c : Dev nD => bigSep Finset.univ fun k : Fin 8 => (atPos ER (kcell (c, k)) 0 ∅ 0 : sProp 𝕄)) payToks).symm).trans
      (bigSep_mono fun c _ => show _ ⊢ linear c from Entails.of_eq (by unfold linear places; rw [bigSep_fin8])))
    isplitl [Hat]; · iexact Hat
    iexact Htk

/-- The start's step over all devices at once: invariants made, duties dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The rights to wait -/

theorem bar_eq_iff {a b : Dev nD} : barCell a = barCell b ↔ a = b :=
  ⟨fun h => congrArg (fun g : GSem nD τ sig => g.1.1) h, fun h => h ▸ rfl⟩
theorem rcvS_injective : Function.Injective rcvS := by decide
theorem rcv_eq_iff {j k : Fin 4} {a b : Dev nD} : rcvCell j a = rcvCell k b ↔ j = k ∧ a = b := by
  constructor
  · intro h
    have h2 : SemLoc.dma (rcvS j) = (SemLoc.dma (rcvS k) : SemLoc sig) := congrArg Prod.snd h
    exact ⟨rcvS_injective (by injection h2), congrArg (fun g : GSem nD τ sig => g.1.1) h⟩
  · rintro ⟨rfl, rfl⟩; rfl

/-- A distance moves one device to another exactly if the opposite distance moves it back. -/
theorem eq_sh_iff (e : Fin 4) (c d : Dev nD) : c = sh e d ↔ d = sh (-e) c :=
  ⟨fun h => by rw [h, sh_neg_sh], fun h => by rw [h, sh_sh_neg]⟩

/-- What one signal of device `d` owes device `c`'s barrier semaphore; -/
theorem owesBar_bar (e : Fin 4) (d c : Dev nD) : owesBar e d (barCell c) () = if d = sh (-e) c then 1 else 0 := by
  unfold owesBar
  rw [tallyAt_apply]
  by_cases h : d = sh (-e) c
  · rw [if_pos h, if_pos ⟨bar_eq_iff.mpr ((eq_sh_iff e c d).mpr h), rfl⟩]
  · rw [if_neg h, if_neg fun h' => h ((eq_sh_iff e c d).mp (bar_eq_iff.mp h'.1))]
/-- and its receive semaphores: nothing; -/
theorem owesBar_rcv (e j : Fin 4) (d c : Dev nD) : owesBar e d (rcvCell j c) () = 0 := by
  unfold owesBar
  rw [tallyAt_ne_cell (fun h => by have := congrArg Prod.snd h; cases this), Finsupp.zero_apply]
/-- what one copy owes its barrier semaphore: nothing; -/
theorem owesRcv_bar (e : Fin 4) (d c : Dev nD) : owesRcv e d (barCell c) () = 0 := by
  unfold owesRcv
  rw [tallyAt_ne_cell (fun h => by have := congrArg Prod.snd h; cases this), Finsupp.zero_apply]
/-- and its receive semaphores. -/
theorem owesRcv_rcv (e j : Fin 4) (d c : Dev nD) : owesRcv e d (rcvCell j c) () = if j = -e ∧ d = sh (-e) c then N else 0 := by
  unfold owesRcv
  rw [tallyAt_apply]
  by_cases h : j = -e ∧ d = sh (-e) c
  · rw [if_pos h, if_pos ⟨rcv_eq_iff.mpr ⟨h.1, (eq_sh_iff e c d).mpr h.2⟩, rfl⟩]
  · rw [if_neg h, if_neg fun h' => h ⟨(rcv_eq_iff.mp h'.1).1, (eq_sh_iff e c d).mp (rcv_eq_iff.mp h'.1).2⟩]

/-- What a device owes at the start, semaphore by semaphore. -/
theorem O₀_at (d : Dev nD) (g : GSem nD τ sig) : O₀ d g () = owesRcv 3 d g () + owesRcv 2 d g () + owesRcv 1 d g ()
    + owesBar 3 d g () + owesBar 2 d g () + owesBar 1 d g () := rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [O₀_at, owesRcv_bar, owesBar_bar, Nat.zero_add, Nat.add_zero, Finset.sum_add_distrib, Finset.sum_const_zero, Finset.sum_ite_eq', Finset.mem_univ, if_true]

theorem launch_rcv (c : Dev nD) (j : Fin 4) (hj : j ≠ 0) :
    tallyOn (rcvCell j c) (launchCredit (Pipeline.owing O₀) 0 (rcvCell j c)) = (tallyAt (rcvCell j c) () N : CellTallies nD τ sig Unit) := by
  unfold tallyAt; refine congrArg _ (Finsupp.ext fun u => ?_); cases u
  rw [Pipeline.launchCredit_owing, Finsupp.single_eq_same]
  have hz : ∀ e : Fin 4, (∑ d : Dev nD, if j = -e ∧ d = sh (-e) c then N else 0) = if j = -e then N else 0 := fun e => by
    by_cases h : j = -e
    · simp only [h, true_and, Finset.sum_ite_eq', Finset.mem_univ, if_true]
    · simp only [h, false_and, if_false, Finset.sum_const_zero]
  simp only [O₀_at, owesRcv_rcv, owesBar_rcv, Nat.zero_add, Nat.add_zero, Finset.sum_add_distrib, Finset.sum_const_zero, hz]
  generalize N = n
  revert j
  intro j hj _
  fin_cases j
  · exact absurd rfl hj
  all_goals simp (decide := true)

omit [FloatOps F] in
theorem creds (c : Dev nD) : (Pipeline.launchCred O₀ c : sProp 𝕄) ⊢ credits c := by
  unfold Pipeline.launchCred credits
  have hsub : ({SemLoc.reg barS, .dma rcv1, .dma rcv2, .dma rcv3} : Finset (SemLoc sig)) ⊆ Finset.univ := Finset.subset_univ _
  refine (bigSep_subset hsub).trans ?_
  rw [bigSep_eq_bigSepL_of_eq [SemLoc.reg barS, .dma rcv1, .dma rcv2, .dma rcv3] (by decide) (by decide), bigSepL_cons_cons, bigSepL_cons_cons, bigSepL_cons_cons,
    bigSepL_singleton, ← launch_bar, ← launch_rcv c 1 (by decide), ← launch_rcv c 2 (by decide), ← launch_rcv c 3 (by decide)]
  exact BI.Entails.refl _

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzB, Hz⟩
  isplitl [HzB]; · iexact HzB
  isplitl [Hz]; · iexact Hz
  iexists (joined m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A staged operand's array at the end. -/
def finalA (c : Dev nD) (w : Fin cfg0.W) : Buf (Elt F) ((cfg0.win w).arr.view.loc (c : Thread nD τ)) := (dats m ρ 0 c).arrAt w cfg0.N

/-- Every operand's array on every device ends so. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, with every counter at zero, every fair execution of the sixteen devices ends with the operands'
    arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

/-- A window over a whole array reads it whole. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result's array ends as the kernel's result. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans h

/-- What a run leaves, array by array: the input's as it was, the result's at the kernel's result, every counter at zero. -/
theorem run_vals : θ_run defs (onTc (τ := τ) (main (F := F))) (s₀ m ρ) (fun r =>
    (∀ c : Dev nD, r.2.mem ((c : Thread nD τ).loc main_v1) = outAt m ρ c ∧
      r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.KernelIdeal.Exch

end
-- ==== Proof.Maths.Distinct.lean ====
/- The largest different values of a finite family of extended reals.

   `kth f k` is the value in place `k`, counted from zero, among the different values of `f` listed from the largest
   down, and `⊥` past the end of that list. Three facts about it make up the correctness of the kernel: taking the
   maximum and striking every entry equal to it, again and again, lists the `kth` (`sup_rounds`); the `kth` of a whole
   family for `k < n` can be taken from the first `n` of each of its parts (`kth_merge`); and in a sorted family whose
   first entries fall strictly they are those entries (`kth_of_antitone`). -/
module

public import Mathlib.Data.EReal.Basic
public import Mathlib.Data.Finset.Lattice.Fold
public import Mathlib.Data.Finset.Max
public import Mathlib.Data.Fintype.Basic

@[expose] public section

noncomputable section

namespace Cert.Distinct

open Finset

variable {ι κ : Type} [Fintype ι] [Fintype κ]

/-- The value in place `k` among the different values of `f` from the largest down; `⊥` once they run out. -/
def kth (f : ι → EReal) : ℕ → EReal
  | 0 => univ.sup f
  | k + 1 => univ.sup fun i => if f i < kth f k then f i else ⊥

/-- No entry is above the first value. -/
theorem le_kth_zero (f : ι → EReal) (i : ι) : f i ≤ kth f 0 := le_sup (f := f) (mem_univ i)

/-- An entry below one value is not above the next. -/
theorem le_kth_succ (f : ι → EReal) (k : ℕ) (i : ι) (h : f i < kth f k) : f i ≤ kth f (k + 1) := by
  have := le_sup (f := fun i => if f i < kth f k then f i else ⊥) (mem_univ i)
  rw [if_pos h] at this
  exact this

/-- The next value is bounded by whatever bounds the entries below this one. -/
theorem kth_succ_le (f : ι → EReal) (k : ℕ) (b : EReal) (h : ∀ i, f i < kth f k → f i ≤ b) : kth f (k + 1) ≤ b := by
  refine Finset.sup_le fun i _ => ?_
  split
  · exact h i ‹_›
  · exact bot_le

/-- A value above `⊥` is an entry. -/
theorem exists_eq_kth (f : ι → EReal) (k : ℕ) (h : kth f k ≠ ⊥) : ∃ i, f i = kth f k := by
  have hne : (univ : Finset ι).Nonempty := by
    by_contra hne
    rw [not_nonempty_iff_eq_empty] at hne
    apply h
    cases k <;> (unfold kth; rw [hne, sup_empty])
  cases k with
  | zero =>
    obtain ⟨i, -, hi⟩ := exists_mem_eq_sup univ hne f
    exact ⟨i, hi.symm⟩
  | succ k =>
    obtain ⟨i, -, hi⟩ := exists_mem_eq_sup univ hne fun i => if f i < kth f k then f i else ⊥
    refine ⟨i, ?_⟩
    have he : kth f (k + 1) = if f i < kth f k then f i else ⊥ := hi
    split at he
    · exact he.symm
    · exact absurd he h

/-- The values fall, strictly until they reach `⊥`. -/
theorem kth_succ_lt (f : ι → EReal) (k : ℕ) (h : kth f k ≠ ⊥) : kth f (k + 1) < kth f k := by
  by_cases h' : kth f (k + 1) = ⊥
  · rw [h']; exact bot_lt_iff_ne_bot.mpr h
  · refine lt_of_le_of_ne (kth_succ_le f k _ fun i hi => hi.le) fun he => ?_
    have hne : (univ : Finset ι).Nonempty := (exists_eq_kth f k h).imp fun _ _ => mem_univ _
    obtain ⟨i, -, hi⟩ := exists_mem_eq_sup univ hne fun i => if f i < kth f k then f i else ⊥
    have hk : kth f (k + 1) = if f i < kth f k then f i else ⊥ := hi
    split at hk
    · rename_i hlt; rw [← hk, he] at hlt; exact lt_irrefl _ hlt
    · exact h' hk

/-- One step down is not up. -/
theorem kth_succ_le_self (f : ι → EReal) (k : ℕ) : kth f (k + 1) ≤ kth f k :=
  kth_succ_le f k _ fun _ hi => hi.le

/-- The values do not rise. -/
theorem kth_antitone (f : ι → EReal) : Antitone (kth f) := antitone_nat_of_succ_le (kth_succ_le_self f)

/-- An entry is one of the first `k + 1` values, or below the last of them. -/
theorem eq_or_lt_kth (f : ι → EReal) (i : ι) : ∀ k, (∃ m ≤ k, f i = kth f m) ∨ f i < kth f k
  | 0 => (le_kth_zero f i).eq_or_lt.imp (fun h => ⟨0, le_rfl, h⟩) id
  | k + 1 => by
    rcases eq_or_lt_kth f i k with ⟨m, hm, h⟩ | h
    · exact Or.inl ⟨m, hm.trans (Nat.le_succ k), h⟩
    · exact (le_kth_succ f k i h).eq_or_lt.imp (fun h => ⟨k + 1, le_rfl, h⟩) id

/-- A family with more values has larger ones in every place. -/
theorem kth_mono (f : ι → EReal) (g : κ → EReal) (h : ∀ i, f i = ⊥ ∨ ∃ j, g j = f i) : ∀ k, kth f k ≤ kth g k
  | 0 => Finset.sup_le fun i _ => by
    rcases h i with h | ⟨j, h⟩
    · rw [h]; exact bot_le
    · rw [← h]; exact le_kth_zero g j
  | k + 1 => kth_succ_le f k _ fun i hi => by
    rcases h i with h | ⟨j, h⟩
    · rw [h]; exact bot_le
    · rw [← h] at hi ⊢; exact le_kth_succ g k j (hi.trans_le (kth_mono f g ‹_› k))

/-- Families with the same values have the same value in every place. -/
theorem kth_congr (f : ι → EReal) (g : κ → EReal) (h : ∀ i, ∃ j, g j = f i) (h' : ∀ j, ∃ i, f i = g j) (k : ℕ) :
    kth f k = kth g k :=
  le_antisymm (kth_mono f g (fun i => Or.inr (h i)) k) (kth_mono g f (fun j => Or.inr (h' j)) k)

/-- The family after `k` rounds, each of which strikes to `⊥` every entry equal to the largest. -/
def rounds (f : ι → EReal) : ℕ → ι → EReal
  | 0 => f
  | k + 1 => fun i => if rounds f k i = univ.sup (rounds f k) then ⊥ else rounds f k i

/-- After `k + 1` rounds just the entries below the value in place `k` are left, and the largest of what is left after
    `k` rounds is the value in place `k`. -/
theorem rounds_eq (f : ι → EReal) : ∀ k, (∀ i, rounds f (k + 1) i = if f i < kth f k then f i else ⊥) ∧
    univ.sup (rounds f k) = kth f k
  | 0 => ⟨fun i => by
      show (if f i = kth f 0 then ⊥ else f i) = _
      rcases (le_kth_zero f i).eq_or_lt with h | h
      · rw [if_pos h, if_neg (by rw [h]; exact lt_irrefl _)]
      · rw [if_neg h.ne, if_pos h], rfl⟩
  | k + 1 => by
    obtain ⟨hr, -⟩ := rounds_eq f k
    have hs : univ.sup (rounds f (k + 1)) = kth f (k + 1) := by
      rw [show rounds f (k + 1) = fun i => if f i < kth f k then f i else ⊥ from funext hr]; rfl
    refine ⟨fun i => ?_, hs⟩
    show (if rounds f (k + 1) i = univ.sup (rounds f (k + 1)) then ⊥ else rounds f (k + 1) i) = _
    rw [hs, hr i]
    by_cases h : f i < kth f k
    · rw [if_pos h]
      rcases (le_kth_succ f k i h).eq_or_lt with h' | h'
      · rw [if_pos h', if_neg (by rw [h']; exact lt_irrefl _)]
      · rw [if_neg h'.ne, if_pos h']
    · rw [if_neg h, ite_self, if_neg fun h' : f i < kth f (k + 1) => h (h'.trans_le (kth_succ_le_self f k))]

/-- The largest entry after `k` rounds is the value in place `k`. -/
theorem sup_rounds (f : ι → EReal) (k : ℕ) : univ.sup (rounds f k) = kth f k := (rounds_eq f k).2

/-- Merging. A family `f` is made up of parts `p c`; a family `w` lists the first `n` values of every part, and nothing
    else. Then `f` and `w` have the same first `n` values. -/
theorem kth_merge {C ν : Type} [Fintype ν] {n : ℕ} (f : ι → EReal) (p : C → κ → EReal) (w : ν → EReal)
    (hpf : ∀ c k, ∃ i, f i = p c k) (hfp : ∀ i, ∃ c k, p c k = f i)
    (hw : ∀ l, ∃ c, ∃ m < n, w l = kth (p c) m) (hpw : ∀ c, ∀ m < n, ∃ l, w l = kth (p c) m) :
    ∀ k < n, kth w k = kth f k := by
  have hle : ∀ k, kth w k ≤ kth f k := kth_mono w f fun l => by
    obtain ⟨c, m, -, h⟩ := hw l
    by_cases hb : kth (p c) m = ⊥
    · exact Or.inl (h.trans hb)
    · obtain ⟨k, hk⟩ := exists_eq_kth (p c) m hb
      obtain ⟨i, hi⟩ := hpf c k
      exact Or.inr ⟨i, hi.trans (hk.trans h.symm)⟩
  intro k
  induction k with
  | zero =>
    intro hn
    refine le_antisymm (hle 0) (Finset.sup_le fun i _ => ?_)
    obtain ⟨c, k, h⟩ := hfp i
    obtain ⟨l, hl⟩ := hpw c 0 hn
    rw [← h]
    exact (le_kth_zero (p c) k).trans (hl ▸ le_kth_zero w l)
  | succ k ih =>
    intro hn
    have ih := ih (by omega)
    refine le_antisymm (hle (k + 1)) (kth_succ_le f k _ fun i hi => ?_)
    obtain ⟨c, j, h⟩ := hfp i
    rcases eq_or_lt_kth (p c) j (n - 1) with ⟨m, hm, hj⟩ | hj
    · obtain ⟨l, hl⟩ := hpw c m (by omega)
      have hli : w l = f i := hl.trans (hj.symm.trans h)
      rw [← hli] at hi ⊢
      exact le_kth_succ w k l (ih ▸ hi)
    · obtain ⟨l, hl⟩ := hpw c (k + 1) hn
      have h1 : f i < w l := by
        rw [hl, ← h]
        exact hj.trans_le (kth_antitone (p c) (by omega))
      have h2 : w l < kth w k := by
        rw [ih, hl]
        refine (kth_mono (p c) f (fun j => Or.inr (hpf c j)) (k + 1)).trans_lt (kth_succ_lt f k fun hb => ?_)
        rw [hb] at hi
        exact absurd hi not_lt_bot
      exact h1.le.trans (le_kth_succ w k l h2)

/-- In a family sorted from the largest down, whose entries up to place `k` fall strictly, the values up to place `k`
    are the entries. -/
theorem kth_of_antitone {n : ℕ} (r : Fin n → EReal) (hr : ∀ i j, i ≤ j → r j ≤ r i) :
    ∀ (k : ℕ) (hk : k < n), (∀ (m : ℕ) (hm : m < k), r ⟨m + 1, by omega⟩ < r ⟨m, by omega⟩) → kth r k = r ⟨k, hk⟩
  | 0, hk, _ => le_antisymm (Finset.sup_le fun i _ => hr _ _ (Fin.mk_le_of_le_val (Nat.zero_le _))) (le_kth_zero r _)
  | k + 1, hk, h => by
    have ih := kth_of_antitone r hr k (by omega) fun m hm => h m (by omega)
    refine le_antisymm (kth_succ_le r k _ fun i hi => hr _ _ ?_) (le_kth_succ r k _ ?_)
    · rw [ih] at hi
      by_contra hlt
      rw [not_le] at hlt
      have : i.val < k + 1 := hlt
      exact absurd (hr i ⟨k, by omega⟩ (Fin.mk_le_mk.mpr (by omega))) (not_le.mpr hi)
    · rw [ih]; exact h k (Nat.lt_succ_self k)

end Cert.Distinct

end
-- ==== Proof.KernelIdeal.Value.lean ====
/- What the kernel computes, on extended reals.

   The kernel lists the values of a row by eight rounds, each a maximum and a strike of the entries equal to it. On the
   extended reals such a round is the one of `Cert.Distinct.rounds`, so the list is `Cert.Distinct.kth`: once for a
   device's own columns (`topOf_apply`), once for the thirty-two values of four devices (`pick_apply`). -/
module

public import proofs.«01_k».proof.Proof.KernelIdeal.Exchange
public import proofs.«01_k».proof.Proof.Maths.Distinct
public import Idealize.ShloMosaic.PureOps.Ideal.Laws
public import Idealize.ShloMosaic.Lib.Pipeline.Value
public import Idealize.ShloMosaic.Lib.ValueIdx
public import Idealize.ShloMosaic.Lib.ValueLayout
public import Idealize.ShloMosaic.Lib.ValueLayoutCasts

@[expose] public section

noncomputable section

namespace Cert.KernelIdeal.Value

open Cert.KernelIdeal Cert.KernelIdeal.Gen
open Idealize.ShloMosaic Idealize.ShloMosaic.ValueIdx
open Cert.Distinct

/-- The pattern of minus infinity is the least extended real. -/
theorem ninf : FloatOps.ofBits (F := Ideal) .f32 0xFF800000#32 = (⊥ : EReal) := by
  show Ideal.ofBits .f32 0xFF800000#32 = ⊥
  simp [Ideal.ofBits, Ideal.ieee]

/-- A fold of the maximum from minus infinity is the supremum. -/
theorem fold_max {n : ℕ} (g : Fin n → EReal) :
    (Finset.univ : Finset (Fin n)).fold max (FloatOps.ofBits (F := Ideal) .f32 0xFF800000#32) g = Finset.univ.sup g := by
  rw [ninf]; rfl

/-- One strike: where an entry equals `m` minus infinity comes, elsewhere the entry stays. -/
theorem strike (a m : EReal) :
    Scalar.select (FloatOps.cmpf (F := Ideal) (φ := .f32) .oeq a m) (Scalar.ofBits (F := Ideal) .f32 0xFF800000#32) a
      = if a = m then ⊥ else a := by
  have h : Scalar.ofBits (F := Ideal) .f32 0xFF800000#32 = (⊥ : EReal) := ninf
  rw [h]
  show Scalar.select (BitVec.ofBool (decide (a = m))) (⊥ : EReal) a = _
  by_cases h : a = m
  · rw [decide_eq_true h, if_pos h]; rfl
  · rw [decide_eq_false h, if_neg h]; rfl

/-! ## Rows of a device's block -/

/-- The largest entry of each row, as a column. -/
def rowMax (v : FVec Ideal S256x1024 .f32) : FVec Ideal S256x1 .f32 :=
  shapeCast S256x1 (multiReduction .maximumf [1] S256 v 0xFF800000#32 reduces_S256x1024_S256 (.inl rfl) rfl) shapeCasts_S256_S256x1

/-- The block with every row's largest entries struck. -/
def rowNext (v : FVec Ideal S256x1024 .f32) : FVec Ideal S256x1024 .f32 :=
  select (cmpf .oeq v (broadcastTo S256x1024 (rowMax v) broadcasts_S256x1_S256x1024))
    (broadcast S256x1024 (Scalar.ofBits (F := Ideal) .f32 0xFF800000#32)) v

/-- The block after `k` rounds. -/
def rowAfter (v : FVec Ideal S256x1024 .f32) : ℕ → FVec Ideal S256x1024 .f32
  | 0 => v
  | k + 1 => rowNext (rowAfter v k)

/-- A row's largest entry is the supremum of the row. -/
theorem rowMax_apply (v : FVec Ideal S256x1024 .f32) (r : Fin 256) (z : Fin 1) :
    rowMax v (ix2 r z) = Finset.univ.sup fun j : Fin 1024 => v (ix2 r j) := by
  unfold rowMax
  refine (shapeCast_a_a1_apply _ _ _ _).trans ((Ideal.multiReduction_maximumf_single v _ _ _ _ _).trans ((fold_max _).trans ?_))
  refine congrArg (Finset.univ.sup) (funext fun j => congrArg v (funext fun a => Fin.ext ?_))
  match a with
  | ⟨0, _⟩ => rfl
  | ⟨1, _⟩ => rfl

/-- A round on a row, entry by entry. -/
theorem rowNext_apply (v : FVec Ideal S256x1024 .f32) (r : Fin 256) (j : Fin 1024) :
    rowNext v (ix2 r j) = if v (ix2 r j) = (Finset.univ.sup fun j : Fin 1024 => v (ix2 r j)) then ⊥ else v (ix2 r j) := by
  have hb : broadcastTo S256x1024 (rowMax v) broadcasts_S256x1_S256x1024 (ix2 r j) = Finset.univ.sup fun j : Fin 1024 => v (ix2 r j) := by
    rw [broadcastTo_apply (rowMax v) broadcasts_S256x1_S256x1024 (ix2 r j) (ix2 r (0 : Fin 1)) (fun a => by
      match a with
      | ⟨0, _⟩ => rfl
      | ⟨1, _⟩ => rfl), rowMax_apply]
  rw [← hb]
  exact strike _ _

/-- The rounds on a row are the rounds of the family of its entries. -/
theorem rowAfter_apply (v : FVec Ideal S256x1024 .f32) (r : Fin 256) :
    ∀ (k : ℕ) (j : Fin 1024), rowAfter v k (ix2 r j) = rounds (fun j : Fin 1024 => v (ix2 r j)) k j
  | 0, _ => rfl
  | k + 1, j => by
    have h : (fun j : Fin 1024 => rowAfter v k (ix2 r j)) = rounds (fun j : Fin 1024 => v (ix2 r j)) k :=
      funext (rowAfter_apply v r k)
    show rowNext (rowAfter v k) (ix2 r j) = if rounds _ k j = Finset.univ.sup (rounds _ k) then ⊥ else rounds _ k j
    rw [rowNext_apply, h, rowAfter_apply v r k j]

/-- The largest entry of a row after `k` rounds is the value in place `k`. -/
theorem rowMax_rowAfter (v : FVec Ideal S256x1024 .f32) (k : ℕ) (r : Fin 256) (z : Fin 1) :
    rowMax (rowAfter v k) (ix2 r z) = kth (fun j : Fin 1024 => v (ix2 r j)) k := by
  rw [rowMax_apply, show (fun j : Fin 1024 => rowAfter v k (ix2 r j)) = rounds (fun j : Fin 1024 => v (ix2 r j)) k from
    funext (rowAfter_apply v r k), sup_rounds]

/-- The eight columns side by side, then turned. -/
theorem topOf_eq (x : FVec Ideal S256x1024 .f32) :
    Exch.topOf (F := Ideal) x = transpose S8x256 [1, 0]
      (concatenate S256x8 1 (List.ofFn fun n : Fin 8 => (⟨S256x1, rowMax (rowAfter (k0_pay2 x) n.val)⟩ : (s : Shape) × (s.Idx → EReal)))
        concatenates_S256x1_S256x1_S256x1_S256x1_S256x1_S256x1_S256x1_S256x1_S256x8_d1) transposes_S256x8_p1_0_S8x256 := rfl

/-- A device's own list: in place `k` of row `r`, the value in place `k` of that row. -/
theorem topOf_apply (x : FVec Ideal S256x1024 .f32) (k : Fin 8) (r : Fin 256) :
    Exch.topOf (F := Ideal) x (ix2 k r) = kth (fun j : Fin 1024 => x (ix2 r j)) k.val := by
  have hx : k0_pay2 (F := Ideal) x = x := by
    unfold k0_pay2
    exact funext fun i => shapeCast_apply x _ i i rfl
  rw [topOf_eq, hx, transpose_ix2_apply]
  refine (concatenate_ofFn_unit_apply (t := S256x8) (s₁ := S256x1) 1 (fun n : Fin 8 => rowMax (rowAfter x n.val)) _ rfl rfl (ix2 r k) k rfl (ix2 r 0)
      (fun b hb => by
        match b with
        | ⟨0, _⟩ => rfl
        | ⟨1, _⟩ => exact absurd rfl hb)).trans (rowMax_rowAfter x k.val r 0)

/-! ## Columns of the thirty-two values -/

/-- The largest entry of each column, as a row. -/
def colMax (v : FVec Ideal S32x256 .f32) : FVec Ideal S1x256 .f32 :=
  shapeCast S1x256 (multiReduction .maximumf [0] S256 v 0xFF800000#32 reduces_S32x256_S256 (.inl rfl) rfl) shapeCasts_S256_S1x256

/-- The array with every column's largest entries struck. -/
def colNext (v : FVec Ideal S32x256 .f32) : FVec Ideal S32x256 .f32 :=
  select (cmpf .oeq v (broadcastTo S32x256 (colMax v) broadcasts_S1x256_S32x256))
    (broadcast S32x256 (Scalar.ofBits (F := Ideal) .f32 0xFF800000#32)) v

/-- The array after `k` rounds. -/
def colAfter (v : FVec Ideal S32x256 .f32) : ℕ → FVec Ideal S32x256 .f32
  | 0 => v
  | k + 1 => colNext (colAfter v k)

/-- A column's largest entry is the supremum of the column. -/
theorem colMax_apply (v : FVec Ideal S32x256 .f32) (z : Fin 1) (r : Fin 256) :
    colMax v (ix2 z r) = Finset.univ.sup fun l : Fin 32 => v (ix2 l r) := by
  unfold colMax
  obtain rfl : z = 0 := Subsingleton.elim _ _
  refine (shapeCast_a_1a_apply _ _ _ _).trans ((Ideal.multiReduction_maximumf_single v _ _ _ _ _).trans ((fold_max _).trans ?_))
  refine congrArg (Finset.univ.sup) (funext fun j => congrArg v (funext fun a => Fin.ext ?_))
  match a with
  | ⟨0, _⟩ => rfl
  | ⟨1, _⟩ => rfl

/-- A round on a column, entry by entry. -/
theorem colNext_apply (v : FVec Ideal S32x256 .f32) (l : Fin 32) (r : Fin 256) :
    colNext v (ix2 l r) = if v (ix2 l r) = (Finset.univ.sup fun l : Fin 32 => v (ix2 l r)) then ⊥ else v (ix2 l r) := by
  have hb : broadcastTo S32x256 (colMax v) broadcasts_S1x256_S32x256 (ix2 l r) = Finset.univ.sup fun l : Fin 32 => v (ix2 l r) := by
    rw [broadcastTo_apply (colMax v) broadcasts_S1x256_S32x256 (ix2 l r) (ix2 (0 : Fin 1) r) (fun a => by
      match a with
      | ⟨0, _⟩ => rfl
      | ⟨1, _⟩ => rfl), colMax_apply]
  rw [← hb]
  exact strike _ _

/-- The rounds on a column are the rounds of the family of its entries. -/
theorem colAfter_apply (v : FVec Ideal S32x256 .f32) (r : Fin 256) :
    ∀ (k : ℕ) (l : Fin 32), colAfter v k (ix2 l r) = rounds (fun l : Fin 32 => v (ix2 l r)) k l
  | 0, _ => rfl
  | k + 1, l => by
    have h : (fun l : Fin 32 => colAfter v k (ix2 l r)) = rounds (fun l : Fin 32 => v (ix2 l r)) k :=
      funext (colAfter_apply v r k)
    show colNext (colAfter v k) (ix2 l r) = if rounds _ k l = Finset.univ.sup (rounds _ k) then ⊥ else rounds _ k l
    rw [colNext_apply, h, colAfter_apply v r k l]

/-- The largest entry of a column after `k` rounds is the value in place `k`. -/
theorem colMax_colAfter (v : FVec Ideal S32x256 .f32) (k : ℕ) (z : Fin 1) (r : Fin 256) :
    colMax (colAfter v k) (ix2 z r) = kth (fun l : Fin 32 => v (ix2 l r)) k := by
  rw [colMax_apply, show (fun l : Fin 32 => colAfter v k (ix2 l r)) = rounds (fun l : Fin 32 => v (ix2 l r)) k from
    funext (colAfter_apply v r k), sup_rounds]

/-- The eight rows one below the other, then turned. -/
theorem pick_eq (v : FVec Ideal S4x8x256 .f32) :
    Exch.pick (F := Ideal) v = transpose S256x8 [1, 0]
      (concatenate S8x256 0 (List.ofFn fun n : Fin 8 => (⟨S1x256, colMax (colAfter (k0_pay7 v) n.val)⟩ : (s : Shape) × (s.Idx → EReal)))
        concatenates_S1x256_S1x256_S1x256_S1x256_S1x256_S1x256_S1x256_S1x256_S8x256_d0) transposes_S8x256_p1_0_S256x8 := rfl

/-- The kernel's result from the four slots: in place `k` of row `r`, the value in place `k` among the slots' entries
    for that row. -/
theorem pick_apply (v : FVec Ideal S4x8x256 .f32) (r : Fin 256) (k : Fin 8) :
    Exch.pick (F := Ideal) v (ix2 r k)
      = kth (fun l : Fin 32 => v (ix3 (⟨l.val / 8, by omega⟩ : Fin 4) (⟨l.val % 8, by omega⟩ : Fin 8) r)) k.val := by
  rw [pick_eq, transpose_ix2_apply]
  refine (concatenate_ofFn_unit_apply (t := S8x256) (s₁ := S1x256) 0 (fun n : Fin 8 => colMax (colAfter (k0_pay7 v) n.val)) _ rfl rfl (ix2 k r) k rfl (ix2 0 r)
      (fun b hb => by
        match b with
        | ⟨0, _⟩ => exact absurd rfl hb
        | ⟨1, _⟩ => rfl)).trans ((colMax_colAfter _ k.val 0 r).trans ?_)
  refine congrArg (fun f => kth f k.val) (funext fun l => ?_)
  unfold k0_pay7
  refine shapeCast_apply v _ _ _ ?_
  rw [Shape.rowMajor_val_three, Shape.rowMajor_val_two]
  show (l.val / 8 * 8 + l.val % 8) * 256 + r.val = l.val * 256 + r.val
  omega

end Cert.KernelIdeal.Value

end
-- ==== Proof.KernelIdeal.Result.lean ====
/- The kernel's result against the whole array.

   Device `c` holds columns `1024 (c mod 4), …, 1024 (c mod 4) + 1023` of the array; the devices one, two and three places
   on hold the other columns. Each device lists the eight largest different values of its columns, and the eight largest
   different values of the four lists are the eight largest different values of the whole row. -/
module

public import proofs.«01_k».proof.Proof.KernelIdeal.Run
public import proofs.«01_k».proof.Proof.KernelIdeal.Value
public import Idealize.ShloMosaic.Lib.Layout

@[expose] public section

noncomputable section

namespace Cert.KernelIdeal.Result

open Cert.KernelIdeal Cert.KernelIdeal.Gen
open Idealize.ShloMosaic Idealize.ShloMosaic.ValueIdx
open Cert.Distinct

/-- The whole array: four blocks of columns side by side. -/
abbrev S256x4096 : Shape := ⟨2, ![256, 4096]⟩

/-- A column of device `d`'s block in the whole array. -/
def colAt (d : Dev nD) (j : Fin 1024) : Fin 4096 :=
  ⟨d.val % 4 * 1024 + j.val, by have := j.isLt; have := Nat.mod_lt d.val (show 0 < 4 by decide); omega⟩

/-- The mesh coordinate that cuts the columns is the device's number modulo four. -/
theorem block_eq (X : S256x4096.Idx → EReal) (d : Dev nD) (r : Fin 256) (j : Fin 1024) :
    (Layout.blockN ⟨2, ![256, 1024]⟩ ⟨2, ![256, 4096]⟩ (Layout.meshBlock [2, 2, 4] ![[], [2]] d) X : _ → EReal) (ix2 r j)
      = X (ix2 r (colAt d j)) := by
  rw [Layout.blockN_apply]
  refine congrArg X (funext fun a => Fin.ext ?_)
  rw [Layout.TilesN.idx_val, Layout.meshBlock_val]
  match a with
  | ⟨0, _⟩ =>
    show Layout.meshLin [2, 2, 4] d.val [] * 256 + r.val = r.val
    simp [Layout.meshLin]
  | ⟨1, _⟩ =>
    show Layout.meshLin [2, 2, 4] d.val [2] * 1024 + j.val = d.val % 4 * 1024 + j.val
    simp [Layout.meshLin, Layout.meshCoord, Layout.cutSize]

/-- Each column lies in the block of one of the four devices that exchange with `c`. -/
theorem colAt_surj (c : Dev nD) (i : Fin 4096) : ∃ (a : Fin 4) (j : Fin 1024), colAt (Exch.sh a c) j = i := by
  have hi := i.isLt
  have hc : c.val < 16 := c.isLt
  refine ⟨⟨(i.val / 1024 + 4 - c.val % 4) % 4, by omega⟩, ⟨i.val % 1024, by omega⟩, Fin.ext ?_⟩
  show (c.val / 4 * 4 + (c.val % 4 + (i.val / 1024 + 4 - c.val % 4) % 4) % 4) % 4 * 1024 + i.val % 1024 = i.val
  omega

variable (m : (ℓ : Loc nD τ sig) → Buf (Elt Ideal) ℓ) (ρ : Dev nD → PrngReg)

/-- From memories that hold the blocks of `X`, entry `(r, k)` of every device's result is the value of rank `k` among the
    different values of row `r` of `X`. -/
theorem outAt_eq (X : S256x4096.Idx → EReal)
    (h : ∀ d : Dev nD, m ((d.tc : Thread nD τ).loc main_arg0)
      = Layout.blockN ⟨2, ![256, 1024]⟩ ⟨2, ![256, 4096]⟩ (Layout.meshBlock [2, 2, 4] ![[], [2]] d) X)
    (c : Dev nD) (r : Fin 256) (k : Fin 8) :
    Exch.outAt (F := Ideal) m ρ c (ix2 r k) = kth (fun i : Fin 4096 => X (ix2 r i)) k.val := by
  have htop : ∀ (d : Dev nD) (q : Fin 8), Exch.topT (F := Ideal) m ρ d (ix2 q r) = kth (fun j : Fin 1024 => X (ix2 r (colAt d j))) q.val := by
    intro d q
    refine (Value.topOf_apply (Exch.xstg (F := Ideal) m ρ d) q r).trans ?_
    congr 1
    funext j
    rw [Exch.xstg_eq, h d]
    exact block_eq X d r j
  have hix : ∀ (q : Fin 8), Exch.ix2 q r = ix2 q r := fun q => by funext a; fin_cases a <;> rfl
  refine (Value.pick_apply (Exch.joined (F := Ideal) m ρ c) r k).trans ?_
  refine kth_merge (n := 8) (fun i : Fin 4096 => X (ix2 r i)) (fun (a : Fin 4) (j : Fin 1024) => X (ix2 r (colAt (Exch.sh a c) j))) _
    (fun a j => ⟨_, rfl⟩) (fun i => ?_) (fun l => ?_) (fun a q hq => ?_) k.val k.isLt
  · obtain ⟨a, j, e⟩ := colAt_surj c i
    exact ⟨a, j, by rw [e]⟩
  · refine ⟨⟨l.val / 8, by have := l.isLt; omega⟩, l.val % 8, by omega, ?_⟩
    refine Eq.trans ?_ (htop (Exch.sh ⟨l.val / 8, by have := l.isLt; omega⟩ c) ⟨l.val % 8, by omega⟩)
    exact congrArg (Exch.topT (F := Ideal) m ρ (Exch.sh ⟨l.val / 8, _⟩ c)) (hix ⟨l.val % 8, _⟩)
  · have ha := a.isLt
    refine ⟨⟨a.val * 8 + q, by omega⟩, ?_⟩
    refine Eq.trans ?_ (htop (Exch.sh a c) ⟨q, hq⟩)
    have e1 : (⟨(a.val * 8 + q) / 8, by omega⟩ : Fin 4) = a := Fin.ext (by show (a.val * 8 + q) / 8 = a.val; omega)
    have e2 : (⟨(a.val * 8 + q) % 8, by omega⟩ : Fin 8) = ⟨q, hq⟩ := Fin.ext (by show (a.val * 8 + q) % 8 = q; omega)
    show Exch.topT (F := Ideal) m ρ (Exch.sh ⟨(a.val * 8 + q) / 8, _⟩ c) (Exch.ix2 ⟨(a.val * 8 + q) % 8, _⟩ r) = _
    rw [e1, e2, hix]

end Cert.KernelIdeal.Result

end
-- ==== Proof.Reference.Sorted.lean ====
/- The reference on extended reals.

   The reference sorts a row's column numbers by the negated entries, keeps the first eight and reads the entries there.
   So entry `(r, k)` of its result is entry `(r, order X r k)` of the array, `order X r` being a permutation of the columns
   along which row `r` does not increase. -/
module

public import proofs.«01_k».proof.Proof.Gen.On_untied
public import Idealize.ShloMosaic.PureOps.Ideal.Laws
public import Idealize.ShloMosaic.Lib.Pipeline.Value
public import Idealize.ShloMosaic.Lib.ValueIdx
public import Idealize.ShloMosaic.Lib.SortFacts
public import Idealize.ShloMosaic.Lib.WordCmp

@[expose] public section

noncomputable section

namespace Cert.Sorted

open Cert.On_untied
open Idealize.ShloMosaic Idealize.ShloMosaic.ValueIdx

/-- "Column `k` comes before column `k'`": its entry is the greater one. -/
def before (X : FVec Ideal S256x4096 .f32) (r : Fin 256) (k k' : Fin 4096) : Bool :=
  decide ((X (ix2 r k') : EReal) < (X (ix2 r k) : EReal))

/-- The columns of row `r`, the greatest entry's first. -/
def order (X : FVec Ideal S256x4096 .f32) (r : Fin 256) : Fin 4096 → Fin 4096 := sortedFrom (before X r)

/-- Every column occurs in the order. -/
theorem order_surjective (X : FVec Ideal S256x4096 .f32) (r : Fin 256) : Function.Surjective (order X r) :=
  sortedFrom_surjective _

/-- Along the order the row does not increase. -/
theorem order_antitone (X : FVec Ideal S256x4096 .f32) (r : Fin 256) (i j : Fin 4096) (h : i ≤ j) :
    (X (ix2 r (order X r j)) : EReal) ≤ (X (ix2 r (order X r i)) : EReal) := by
  rcases eq_or_lt_of_le h with rfl | h
  · exact le_refl _
  · have := sortedFrom_noInversion (before X r) (before X r)
      (fun a b hab => by
        simp only [before, decide_eq_true_eq, decide_eq_false_iff_not] at hab ⊢
        exact not_lt.mpr hab.le)
      (fun _ _ h => h)
      (fun a b c hab hbc => by
        simp only [before, decide_eq_false_iff_not, not_lt] at hab hbc ⊢
        exact hab.trans hbc) i j h
    exact le_of_not_gt (α := EReal) (of_decide_eq_false this)

/-- On extended reals the sort's comparison is the order of the first components: no entry is a NaN, and the replacement
    of zero by zero changes nothing. -/
theorem comparator_eq (a b : EReal) (p q : BitVec 32) :
    comparator_f32_i32_d1 (F := Ideal) (a, p) (b, q) = BitVec.ofBool (decide (a < b)) := by
  have canon : ∀ x : EReal,
      Scalar.select (FloatOps.cmpf (F := Ideal) (φ := .f32) .une x x) (FloatOps.ofBits (F := Ideal) .f32 0x7FC00000#32)
        (Scalar.select (FloatOps.cmpf (F := Ideal) (φ := .f32) .oeq x (FloatOps.ofBits (F := Ideal) .f32 0x00000000#32))
          (FloatOps.ofBits (F := Ideal) .f32 0x00000000#32) x) = x := by
    intro x
    have h1 : FloatOps.cmpf (F := Ideal) (φ := .f32) .une x x = 0#1 := by
      show BitVec.ofBool (decide (x ≠ x)) = 0#1
      simp
    rw [h1]
    show (Scalar.select (BitVec.ofBool (decide (x = FloatOps.ofBits (F := Ideal) .f32 0x00000000#32)))
          (FloatOps.ofBits (F := Ideal) .f32 0x00000000#32) x : EReal) = x
    by_cases h : x = FloatOps.ofBits (F := Ideal) .f32 0x00000000#32
    · rw [decide_eq_true h]; exact h.symm
    · rw [decide_eq_false h]; rfl
  unfold comparator_f32_i32_d1
  simp only
  show FloatOps.cmpfTotal (F := Ideal) (φ := .f32) .lt
    (Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32))
        (FloatOps.ofBits (F := Ideal) .f32 0x00000000#32) a))
    (Scalar.select (FloatOps.cmpf (F := Ideal) (φ := .f32) .une b b) (FloatOps.ofBits (F := Ideal) .f32 0x7FC00000#32)
      (Scalar.select (FloatOps.cmpf (F := Ideal) (φ := .f32) .oeq b (FloatOps.ofBits (F := Ideal) .f32 0x00000000#32))
        (FloatOps.ofBits (F := Ideal) .f32 0x00000000#32) b)) = _
  rw [canon a, canon b]
  rfl

/-- The index with its column replaced. -/
theorem along_col (r : Fin 256) (k q : Fin 4096) : Shape.Idx.along (ix2 r k : S256x4096.Idx) (1 : Fin 2) q = ix2 r q := by
  funext a
  fin_cases a <;> rfl

variable [Facts]

/-- The sorted column numbers, as words. -/
theorem argsort_apply (X : FVec Ideal S256x4096 .f32) (r : Fin 256) (k : Fin 4096) :
    fn_argsort (F := Ideal) (Host.negf X) (ix2 r k) = BitVec.ofNat 32 (order X r k).val := by
  unfold fn_argsort
  simp only
  unfold Host.sort2
  rw [dif_pos (show 1 < S256x4096.rank by decide)]
  show BitVec.ofNat 32 (Shape.Idx.along (ix2 r k : S256x4096.Idx) (1 : Fin 2) (sortedFrom _ k) 1).val = _
  have hb : (fun q q' : Fin 4096 => comparator_f32_i32_d1 (F := Ideal)
      (Host.negf X (Shape.Idx.along (ix2 r k : S256x4096.Idx) (1 : Fin 2) q), iotaInDim S256x4096 32 1 (Shape.Idx.along (ix2 r k : S256x4096.Idx) (1 : Fin 2) q))
      (Host.negf X (Shape.Idx.along (ix2 r k : S256x4096.Idx) (1 : Fin 2) q'), iotaInDim S256x4096 32 1 (Shape.Idx.along (ix2 r k : S256x4096.Idx) (1 : Fin 2) q')) == 1#1)
      = before X r := by
    funext q q'
    rw [along_col, along_col]
    refine (congrArg (· == 1#1) (comparator_eq _ _ _ _)).trans ?_
    show (BitVec.ofBool (decide (-(X (ix2 r q) : EReal) < -(X (ix2 r q') : EReal))) == 1#1) = decide _
    rw [decide_eq_decide.mpr EReal.neg_lt_neg_iff]
    cases decide ((X (ix2 r q') : EReal) < (X (ix2 r q) : EReal)) <;> rfl
  refine (congrArg (fun i : S256x4096.Idx => BitVec.ofNat 32 (i 1).val) (along_col r k _)).trans ?_
  exact congrArg (fun f : Fin 4096 → Fin 4096 → Bool => BitVec.ofNat 32 (sortedFrom f k).val) hb

/-- The gather of `take_along_axis`: row by row, the entry at the column the index names (read signed and clamped). -/
theorem gather_apply (x : FVec Ideal S256x4096 .f32) (idx : IVec S256x8x1 32) (r : Fin 256) (k : Fin 8) :
    Host.gather gather_S256x4096_S256x8x1_S256x8_n_1_0_0_1_2_11 x idx (ix2 r k)
      = x (ix2 r ⟨min (idx (ix3 r k 0)).toInt.toNat 4095, by omega⟩) := by
  unfold Host.gather
  congr 1
  funext a
  refine Fin.ext ?_
  show (gather_S256x4096_S256x8x1_S256x8_n_1_0_0_1_2_11).start (ix2 r k) idx a
    + (gather_S256x4096_S256x8x1_S256x8_n_1_0_0_1_2_11).batchCoord (ix2 r k) a
    + (gather_S256x4096_S256x8x1_S256x8_n_1_0_0_1_2_11).offCoord (ix2 r k) a = _
  have ha : a = (0 : Fin 2) ∨ a = (1 : Fin 2) := by fin_cases a <;> decide
  rcases ha with rfl | rfl
  · rw [GatherDims.start_batching _ _ _ _ (List.mem_singleton.mpr rfl),
      GatherDims.offCoord_eq_zero _ _ _ fun h => ((GatherDims.mem_sKept _ _).mp h).2 (List.mem_singleton.mpr rfl)]
    unfold GatherDims.batchCoord
    have hmem : (0 : Fin 2) ∈ (gather_S256x4096_S256x8x1_S256x8_n_1_0_0_1_2_11).operandBatchingDims := List.mem_singleton.mpr rfl
    rw [dif_pos hmem]
    simp only [Nat.zero_add, Nat.add_zero]
    rfl
  · rw [GatherDims.batchCoord_eq_zero _ _ _ fun h => by simp [gather_S256x4096_S256x8x1_S256x8_n_1_0_0_1_2_11] at h,
      GatherDims.offCoord_eq_zero _ _ _ fun h => ((GatherDims.mem_sKept _ _).mp h).1 (List.mem_singleton.mpr rfl)]
    unfold GatherDims.start
    have hmem : (1 : Fin 2) ∈ (gather_S256x4096_S256x8x1_S256x8_n_1_0_0_1_2_11).startIndexMap := List.mem_singleton.mpr rfl
    rw [dif_pos hmem]
    have hsi : (gather_S256x4096_S256x8x1_S256x8_n_1_0_0_1_2_11).siIdx (ix2 r k)
        ⟨List.idxOf (1 : Fin 2) (gather_S256x4096_S256x8x1_S256x8_n_1_0_0_1_2_11).startIndexMap, List.idxOf_lt_length_iff.2 hmem⟩
        = ix3 r k 0 := by
      funext b
      refine Fin.ext ?_
      match b with
      | ⟨0, _⟩ => rfl
      | ⟨1, _⟩ => rfl
      | ⟨2, _⟩ => rfl
    simp only [Nat.add_zero]
    exact congrArg (fun q => min (idx q).toInt.toNat 4095) hsi

instance : Std.Commutative (IntOp.andi : BitVec 1 → BitVec 1 → BitVec 1) := ⟨BitVec.and_comm⟩
instance : Std.Associative (IntOp.andi : BitVec 1 → BitVec 1 → BitVec 1) := ⟨BitVec.and_assoc⟩

/-- A conjunction of ones is one. -/
theorem fold_ones {ι : Type} (s : Finset ι) : s.fold (IntOp.andi : BitVec 1 → BitVec 1 → BitVec 1) 1#1 (fun _ => 1#1) = 1#1 := by
  induction s using Finset.cons_induction with
  | empty => rfl
  | cons a s ha ih => rw [Finset.fold_cons, ih]; rfl

/-- The range test of `take_along_axis` on a one-entry axis. -/
theorem reduce_apply (x : IVec S256x8x1 1) (r : Fin 256) (k : Fin 8) (h : x (ix3 r k 0) = 1#1) :
    Host.reduce IntOp.andi x (constantI S_ 1 1#1) Facts.reducesTo_S256x8x1_S256x8_d2 Facts.h_S_ (ix2 r k) = 1#1 := by
  refine (Host.reduce_eq_fold_single IntOp.andi x _ _ (show S256x8x1.Reduces [2] S256x8 by decide) Facts.h_S_ (ix2 r k)).trans ?_
  have hl : ∀ z : Fin (S256x8x1.size 2), x ((show S256x8x1.Reduces [2] S256x8 by decide).lift (ix2 r k) z) = 1#1 := by
    intro z
    refine Eq.trans (congrArg x ?_) h
    funext a
    match a with
    | ⟨0, _⟩ => exact Fin.ext rfl
    | ⟨1, _⟩ => exact Fin.ext rfl
    | ⟨2, _⟩ => exact Subsingleton.elim (α := Fin 1) _ _
  have e : (x ∘ (show S256x8x1.Reduces [2] S256x8 by decide).lift (ix2 r k)) = fun _ => 1#1 := funext hl
  rw [e]
  exact fold_ones _

/-- Taking along the columns, where the index is a column number: the entry there. -/
theorem take_apply (x : FVec Ideal S256x4096 .f32) (idx : IVec S256x8 32) (r : Fin 256) (k : Fin 8) (p : Fin 4096)
    (h : idx (ix2 r k) = BitVec.ofNat 32 p.val) :
    fn_take_along_axis (F := Ideal) x idx (ix2 r k) = x (ix2 r p) := by
  have hp := p.isLt
  have hnat : (BitVec.ofNat 32 p.val).toNat = p.val := by rw [BitVec.toNat_ofNat]; omega
  have hint : (BitVec.ofNat 32 p.val).toInt = (p.val : Int) := by
    rw [WordCmp.toInt_eq_toNat_of_lt_half (by rw [hnat]; omega), hnat]
  unfold fn_take_along_axis
  simp only
  generalize hv4 : select (cmpi .slt idx (broadcastInDim S256x8 ![] Facts.bcast_S_S256x8 (constantI S_ 32 0#32)))
    (addi idx (broadcastInDim S256x8 ![] Facts.bcast_S_S256x8 (constantI S_ 32 4096#32))) idx = v4
  have h4 : v4 (ix2 r k) = BitVec.ofNat 32 p.val := by
    rw [← hv4]
    show Scalar.select (IntOp.cmpi .slt (idx (ix2 r k)) 0#32) (IntOp.addi (idx (ix2 r k)) 4096#32) (idx (ix2 r k)) = _
    rw [h]
    have : IntOp.cmpi .slt (BitVec.ofNat 32 p.val) 0#32 = 0#1 := by
      show BitVec.ofBool (decide ((BitVec.ofNat 32 p.val).toInt < (0#32).toInt)) = 0#1
      rw [hint, decide_eq_false (by simp)]; rfl
    rw [this]; rfl
  generalize hv5 : shapeCast S256x8x1 v4 Facts.shapeCasts_S256x8_S256x8x1 = v5
  have h5 : v5 (ix3 r k 0) = BitVec.ofNat 32 p.val := by
    rw [← hv5, ← h4]
    refine shapeCast_apply v4 _ (ix3 r k 0) (ix2 r k) ?_
    refine (Shape.rowMajor_val_two (ix2 r k : S256x8.Idx)).trans (Eq.trans ?_ (Shape.rowMajor_val_three (ix3 r k 0 : S256x8x1.Idx)).symm)
    show r.val * 8 + k.val = (r.val * 8 + k.val) * 1 + 0
    omega
  show Scalar.select (Host.reduce IntOp.andi _ (constantI S_ 1 1#1) Facts.reducesTo_S256x8x1_S256x8_d2 Facts.h_S_ (ix2 r k))
    (Host.gather gather_S256x4096_S256x8x1_S256x8_n_1_0_0_1_2_11 x v5 (ix2 r k)) _ = _
  rw [reduce_apply _ r k ?_, gather_apply]
  · show x (ix2 r ⟨min (v5 (ix3 r k 0)).toInt.toNat 4095, _⟩) = x (ix2 r p)
    refine congrArg (fun q => x (ix2 r q)) (Fin.ext ?_)
    show min (v5 (ix3 r k 0)).toInt.toNat 4095 = p.val
    rw [h5, hint, Int.toNat_natCast]
    omega
  · show IntOp.andi (IntOp.cmpi .sge (v5 (ix3 r k 0)) 0#32) (IntOp.cmpi .sle (v5 (ix3 r k 0)) 4095#32) = 1#1
    rw [h5]
    have h1 : IntOp.cmpi .sge (BitVec.ofNat 32 p.val) 0#32 = 1#1 := by
      show BitVec.ofBool (decide ((0#32).toInt ≤ (BitVec.ofNat 32 p.val).toInt)) = 1#1
      rw [hint, decide_eq_true (by simp)]; rfl
    have h2 : IntOp.cmpi .sle (BitVec.ofNat 32 p.val) 4095#32 = 1#1 := by
      show BitVec.ofBool (decide ((BitVec.ofNat 32 p.val).toInt ≤ (4095#32).toInt)) = 1#1
      rw [hint, decide_eq_true (by show (p.val : Int) ≤ 4095; omega)]; rfl
    rw [h1, h2]; rfl

/-- The reference's result as a function of the array. -/
def taken (X : FVec Ideal S256x4096 .f32) : FVec Ideal S256x8 .f32 :=
  fn_take_along_axis (F := Ideal) X
    (extractStridedSlice S256x8 ![0, 0] (fn_argsort (F := Ideal) (Host.negf X)) Facts.slices_S256x4096_S256x8_0_0)

/-- Entry `(r, k)` of the reference's result is row `r`'s entry in the column of place `k`. -/
theorem taken_apply (X : FVec Ideal S256x4096 .f32) (r : Fin 256) (k : Fin 8) :
    taken X (ix2 r k) = X (ix2 r (order X r ⟨k.val, by have := k.isLt; omega⟩)) := by
  refine take_apply X _ r k _ (Eq.trans ?_ (argsort_apply X r ⟨k.val, by have := k.isLt; omega⟩))
  generalize fn_argsort (F := Ideal) (Host.negf X) = w
  refine extractStridedSlice_apply ![0, 0] w _ (ix2 r k) (ix2 r ⟨k.val, _⟩) fun a => ?_
  match a with
  | ⟨0, _⟩ => show r.val = 0 + r.val; omega
  | ⟨1, _⟩ => show k.val = 0 + k.val; omega

end Cert.Sorted

end
-- ==== Proof.Reference.Untied.lean ====
/- What the mask says, and what it gives.

   The mask is one at `(r, k)` when each of the first `k + 1` entries of row `r` of the reference's result is smaller than
   the one before it. There the entry of place `k` is the value of rank `k` among the different values of the row. -/
module

public import proofs.«01_k».proof.Proof.Reference.Sorted
public import proofs.«01_k».proof.Proof.Maths.Distinct

@[expose] public section

noncomputable section

namespace Cert.Sorted

open Cert.On_untied
open Idealize.ShloMosaic Idealize.ShloMosaic.ValueIdx
open Cert.Distinct

variable [Facts]

/-- Column `k` of the comparison of neighbours, as a vector over the rows. -/
theorem column_apply (v : IVec S256x7 1) (o : ℕ) (ho : o < 7) (h : S256x7.Slices ![0, o] S256x1) (h' : S256x1.ShapeCasts S256)
    (r : Fin 256) : shapeCast S256 (extractStridedSlice S256x1 ![0, o] v h) h' (ix1 r) = v (ix2 r ⟨o, ho⟩) := by
  refine (shapeCast_apply (extractStridedSlice S256x1 ![0, o] v h) h' (ix1 r) (ix2 r 0) ?_).trans
    (extractStridedSlice_apply ![0, o] v h (ix2 r 0) (ix2 r ⟨o, ho⟩) fun a => ?_)
  · refine (Shape.rowMajor_val_two (ix2 r 0 : S256x1.Idx)).trans (Eq.trans ?_ (Shape.rowMajor_val_one (ix1 r : S256.Idx)).symm)
    show r.val * 1 + 0 = r.val
    omega
  · match a with
    | ⟨0, _⟩ => show r.val = 0 + r.val; omega
    | ⟨1, _⟩ => show o = o + 0; omega

/-- A vector over the rows as a column. -/
theorem asColumn_apply (v : IVec S256 1) (r : Fin 256) (z : Fin 1) :
    broadcastInDim S256x1 ![0] Facts.bcast_S256_S256x1_0 v (ix2 r z) = v (ix1 r) := by
  refine broadcastInDim_apply ![0] _ v (ix2 r z) (ix1 r) fun a => ?_
  match a with
  | ⟨0, _⟩ => rfl

/-- Entry `k + 1` of a row against entry `k`. -/
def drops (T : FVec Ideal S256x8 .f32) : IVec S256x7 1 :=
  cmpf .olt (extractStridedSlice S256x7 ![0, 1] T Facts.slices_S256x8_S256x7_0_1)
    (extractStridedSlice S256x7 ![0, 0] T Facts.slices_S256x8_S256x7_0_0)

/-- Where the comparison of neighbours is one, the later entry is smaller. -/
theorem drops_apply (T : FVec Ideal S256x8 .f32) (r : Fin 256) (o : Fin 7) (h : drops T (ix2 r o) = 1#1) :
    (T (ix2 r ⟨o.val + 1, by have := o.isLt; omega⟩) : EReal) < T (ix2 r ⟨o.val, by have := o.isLt; omega⟩) := by
  have h1 : extractStridedSlice S256x7 ![0, 1] T Facts.slices_S256x8_S256x7_0_1 (ix2 r o)
      = T (ix2 r ⟨o.val + 1, by have := o.isLt; omega⟩) := by
    refine extractStridedSlice_apply ![0, 1] T _ (ix2 r o) (ix2 r ⟨o.val + 1, _⟩) fun a => ?_
    match a with
    | ⟨0, _⟩ => show r.val = 0 + r.val; omega
    | ⟨1, _⟩ => show o.val + 1 = 1 + o.val; omega
  have h0 : extractStridedSlice S256x7 ![0, 0] T Facts.slices_S256x8_S256x7_0_0 (ix2 r o)
      = T (ix2 r ⟨o.val, by have := o.isLt; omega⟩) := by
    refine extractStridedSlice_apply ![0, 0] T _ (ix2 r o) (ix2 r ⟨o.val, _⟩) fun a => ?_
    match a with
    | ⟨0, _⟩ => show r.val = 0 + r.val; omega
    | ⟨1, _⟩ => show o.val = 0 + o.val; omega
  rw [← h1, ← h0]
  have h2 : BitVec.ofBool (decide ((extractStridedSlice S256x7 ![0, 1] T Facts.slices_S256x8_S256x7_0_1 (ix2 r o) : EReal)
      < extractStridedSlice S256x7 ![0, 0] T Facts.slices_S256x8_S256x7_0_0 (ix2 r o))) = 1#1 := h
  by_contra hn
  rw [decide_eq_false hn] at h2
  exact absurd h2 (by decide)

/-- The conjunction, over the rows, of the first `n` columns of a comparison of neighbours. -/
def upTo (v : IVec S256x7 1) (r : Fin 256) : ℕ → BitVec 1
  | 0 => 1#1
  | n + 1 => IntOp.andi (upTo v r n) (if h : n < 7 then v (ix2 r ⟨n, h⟩) else 1#1)

/-- A conjunction that is one has only ones. -/
theorem upTo_one (v : IVec S256x7 1) (r : Fin 256) (n : ℕ) (h : upTo v r n = 1#1) (q : ℕ) (hq : q < n) (hq' : q < 7) :
    v (ix2 r ⟨q, hq'⟩) = 1#1 := by
  induction n with
  | zero => exact absurd hq (Nat.not_lt_zero _)
  | succ n ih =>
    have split : ∀ a b : BitVec 1, IntOp.andi a b = 1#1 → a = 1#1 ∧ b = 1#1 := by decide
    obtain ⟨ha, hb⟩ := split _ _ h
    rcases Nat.lt_succ_iff_lt_or_eq.mp hq with hlt | rfl
    · exact ih ha hlt
    · rw [dif_pos hq'] at hb; exact hb

/-- The mask from the comparison of neighbours: column `k` is the conjunction of its first `k` columns. -/
theorem mask_eq (X : FVec Ideal S256x4096 .f32) (r : Fin 256) (k : Fin 8) :
    fn (F := Ideal) X (ix2 r k) = upTo (drops (taken X)) r k.val := by
  unfold drops taken fn fn_part1
  simp only
  generalize cmpf .olt (extractStridedSlice S256x7 ![0, 1] (fn_take_along_axis (F := Ideal) X _) _) _ = v
  have hand : ∀ (x y : IVec S256 1), andi x y (ix1 r) = IntOp.andi (x (ix1 r)) (y (ix1 r)) := fun _ _ => rfl
  have hone : broadcastInDim S256 ![] Facts.bcast_S_S256 (constantI S_ 1 1#1) (ix1 r) = 1#1 := rfl
  generalize hc0 : broadcastInDim S256 ![] Facts.bcast_S_S256 (constantI S_ 1 1#1) = c0 at hone ⊢
  generalize hc1 : andi c0 (shapeCast S256 _ _) = c1
  have h1 : c1 (ix1 r) = upTo v r 1 := by rw [← hc1, hand, hone, column_apply v 0 (by decide)]; rfl
  generalize hc2 : andi c1 (shapeCast S256 _ _) = c2
  have h2 : c2 (ix1 r) = upTo v r 2 := by rw [← hc2, hand, h1, column_apply v 1 (by decide)]; rfl
  generalize hc3 : andi c2 (shapeCast S256 _ _) = c3
  have h3 : c3 (ix1 r) = upTo v r 3 := by rw [← hc3, hand, h2, column_apply v 2 (by decide)]; rfl
  generalize hc4 : andi c3 (shapeCast S256 _ _) = c4
  have h4 : c4 (ix1 r) = upTo v r 4 := by rw [← hc4, hand, h3, column_apply v 3 (by decide)]; rfl
  generalize hc5 : andi c4 (shapeCast S256 _ _) = c5
  have h5 : c5 (ix1 r) = upTo v r 5 := by rw [← hc5, hand, h4, column_apply v 4 (by decide)]; rfl
  generalize hc6 : andi c5 (shapeCast S256 _ _) = c6
  have h6 : c6 (ix1 r) = upTo v r 6 := by rw [← hc6, hand, h5, column_apply v 5 (by decide)]; rfl
  generalize hc7 : andi c6 (shapeCast S256 _ _) = c7
  have h7 : c7 (ix1 r) = upTo v r 7 := by rw [← hc7, hand, h6, column_apply v 6 (by decide)]; rfl
  let cols : Fin 8 → IVec S256 1 := ![c0, c1, c2, c3, c4, c5, c6, c7]
  refine (concatenate_ofFn_unit_apply (1 : Fin S256x8.rank)
    (fun n : Fin 8 => broadcastInDim S256x1 ![0] Facts.bcast_S256_S256x1_0 (cols n)) _ rfl rfl (ix2 r k) k rfl (ix2 r 0)
    fun b hb => ?_).trans ((asColumn_apply (cols k) r 0).trans ?_)
  · match b with
    | ⟨0, _⟩ => rfl
    | ⟨1, _⟩ => exact absurd (Fin.ext rfl) hb
  · fin_cases k
    exacts [hone, h1, h2, h3, h4, h5, h6, h7]

/-- The reference's entry where the mask is one: the value of rank `k` among the different values of the row. -/
theorem taken_of_mask (X : FVec Ideal S256x4096 .f32) (r : Fin 256) (k : Fin 8) (h : fn (F := Ideal) X (ix2 r k) = 1#1) :
    taken X (ix2 r k) = kth (fun i : Fin 4096 => X (ix2 r i)) k.val := by
  have hk := k.isLt
  rw [mask_eq] at h
  have hc := kth_congr (fun i : Fin 4096 => (X (ix2 r (order X r i)) : EReal)) (fun i : Fin 4096 => X (ix2 r i))
    (fun i => ⟨order X r i, rfl⟩) (fun j => (order_surjective X r j).imp fun i hi => by rw [hi]) k.val
  rw [taken_apply, ← hc]
  refine (kth_of_antitone (fun i : Fin 4096 => (X (ix2 r (order X r i)) : EReal)) (order_antitone X r) k.val (by omega)
    fun q hq => ?_).symm
  have hd := drops_apply (taken X) r ⟨q, by omega⟩ (upTo_one _ r k.val h q hq (by omega))
  rw [taken_apply, taken_apply] at hd
  exact hd

end Cert.Sorted

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_untied
public import proofs.«01_k».proof.Proof.Kernel.Run
public import proofs.«01_k».proof.Proof.KernelIdeal.Run
public import proofs.«01_k».proof.Proof.KernelIdeal.Result
public import proofs.«01_k».proof.Proof.Reference.Untied
public import Idealize.ShloMosaic.Adequacy
public import Idealize.ShloMosaic.Init

@[expose] public section

noncomputable section

namespace Cert.Proof

open Idealize.ShloMosaic Idealize.SL.Sem Idealize.ShloMosaic.ValueIdx

/-- The kernel at bit patterns runs, leaves its argument as it was and every counter at zero. -/
theorem frame_p : Cert.quiescent_Kernel := fun m ρ _ =>
  (θ_run Cert.Kernel.defs _ _).mono (fun _ h => ⟨fun c => (h.1 c).2, h.2⟩) (Cert.Kernel.Exch.run_vals (F := Bits) m ρ)

/-- The same on extended reals. -/
theorem frame_pi : Cert.quiescent_KernelIdeal := fun m ρ _ =>
  (θ_run Cert.KernelIdeal.defs _ _).mono (fun _ h => ⟨fun c => (h.1 c).2, h.2⟩) (Cert.KernelIdeal.Exch.run_vals (F := Ideal) m ρ)

/-- The reference runs, leaves its argument as it was, and has no counters. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the mask is one, every device's result is the reference's: both are the value of the column's rank among the
    different values of the row. -/
theorem value : Cert.algebraic_KernelIdeal_ReferenceIdeal_on_untied := by
  intro m ρ m' ρ' _ hagree
  refine ⟨Cert.Sorted.taken (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun _ h c => ⟨fun i hi => ?_, (h.1 c).2⟩)
      (Cert.KernelIdeal.Exch.run_vals (F := Ideal) m ρ)
    have e := eq_ix2 i
    rw [e] at hi ⊢
    exact (congrFun (h.1 c).1 _).trans ((Cert.KernelIdeal.Result.outAt_eq m ρ _ hagree c (i 0) (i 1)).trans
      (Cert.Sorted.taken_of_mask _ (i 0) (i 1) hi).symm)
  · exact (θ_run Cert.ReferenceIdeal.defs _ _).mono (fun _ h => ⟨fun i _ => congrFun (h 0).1 i, (h 0).2⟩)
      (Cert.ReferenceIdeal.Value.run (F := Ideal) m' ρ')

/-- The certificate's claims. -/
theorem claim : Cert.Claim :=
  ⟨Cert.Kernel.Gen.facts, Cert.KernelIdeal.Gen.facts, Cert.ReferenceIdeal.Gen.facts, Cert.On_untied.Gen.facts,
    frame_p, frame_pi, frame_ri, trivial, value⟩

end Cert.Proof

end
